-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x5120 : Shape := ⟨3, ![192, 1, 5120]⟩
abbrev S5120 : Shape := ⟨1, ![5120]⟩
abbrev S192x1 : Shape := ⟨2, ![192, 1]⟩
abbrev S2560x160x16 : Shape := ⟨3, ![2560, 160, 16]⟩
abbrev S2560x160 : Shape := ⟨2, ![2560, 160]⟩
abbrev S640x160x16 : Shape := ⟨3, ![640, 160, 16]⟩
abbrev S640x160 : Shape := ⟨2, ![640, 160]⟩
abbrev S192x5120 : Shape := ⟨2, ![192, 5120]⟩
abbrev S40x128 : Shape := ⟨2, ![40, 128]⟩
abbrev S1x192 : Shape := ⟨2, ![1, 192]⟩
abbrev S20x128x160x2x8 : Shape := ⟨5, ![20, 128, 160, 2, 8]⟩
abbrev S160x2x20x8x128 : Shape := ⟨5, ![160, 2, 20, 8, 128]⟩
abbrev S5x128x160x2x8 : Shape := ⟨5, ![5, 128, 160, 2, 8]⟩
abbrev S160x2x5x8x128 : Shape := ⟨5, ![160, 2, 5, 8, 128]⟩
abbrev S160x2560 : Shape := ⟨2, ![160, 2560]⟩
abbrev S160x640 : Shape := ⟨2, ![160, 640]⟩
abbrev S20x192x128 : Shape := ⟨3, ![20, 192, 128]⟩
abbrev S5x192x128 : Shape := ⟨3, ![5, 192, 128]⟩
abbrev S192x128 : Shape := ⟨2, ![192, 128]⟩
abbrev S3 : Shape := ⟨1, ![3]⟩
abbrev S1 : Shape := ⟨1, ![1]⟩
abbrev S_ : Shape := ⟨0, ![]⟩
abbrev S1x128 : Shape := ⟨2, ![1, 128]⟩
abbrev S1x64 : Shape := ⟨2, ![1, 64]⟩
abbrev S1x256 : Shape := ⟨2, ![1, 256]⟩
abbrev S128x256 : Shape := ⟨2, ![128, 256]⟩
abbrev S256x128 : Shape := ⟨2, ![256, 128]⟩
abbrev S256x256 : Shape := ⟨2, ![256, 256]⟩
abbrev S192 : Shape := ⟨1, ![192]⟩
abbrev S192x256 : Shape := ⟨2, ![192, 256]⟩
abbrev S192x512 : Shape := ⟨2, ![192, 512]⟩
abbrev S1x512 : Shape := ⟨2, ![1, 512]⟩
abbrev S1x1x4x8x128 : Shape := ⟨5, ![1, 1, 4, 8, 128]⟩
abbrev S4x8x128 : Shape := ⟨3, ![4, 8, 128]⟩
abbrev S32x128 : Shape := ⟨2, ![32, 128]⟩
abbrev S8x128 : Shape := ⟨2, ![8, 128]⟩
abbrev S8x1x128 : Shape := ⟨3, ![8, 1, 128]⟩
abbrev S8x8x128 : Shape := ⟨3, ![8, 8, 128]⟩
abbrev S64x128 : Shape := ⟨2, ![64, 128]⟩
abbrev S16x128 : Shape := ⟨2, ![16, 128]⟩
abbrev S16x512 : Shape := ⟨2, ![16, 512]⟩
abbrev S256x512 : Shape := ⟨2, ![256, 512]⟩
abbrev S1x192x128 : Shape := ⟨3, ![1, 192, 128]⟩
abbrev S1x1x1x8x128 : Shape := ⟨5, ![1, 1, 1, 8, 128]⟩
abbrev S1x8x128 : Shape := ⟨3, ![1, 8, 128]⟩
abbrev S2x128 : Shape := ⟨2, ![2, 128]⟩
abbrev S2x1x128 : Shape := ⟨3, ![2, 1, 128]⟩
abbrev S2x8x128 : Shape := ⟨3, ![2, 8, 128]⟩

abbrev nBuf : Space → Nat
  | .hbm => 24
  | .vmem => 15
  | .smem => 0
  | _ => 0

abbrev bufTy : (tb : Table) → Fin (tcTables nBuf tb) → BufTy
  | .hbm, ⟨0, _⟩ => ⟨S192x1x5120, .bf16⟩
  | .hbm, ⟨1, _⟩ => ⟨S5120, .bf16⟩
  | .hbm, ⟨2, _⟩ => ⟨S192x1, .i32⟩
  | .hbm, ⟨3, _⟩ => ⟨S2560x160x16, .i8⟩
  | .hbm, ⟨4, _⟩ => ⟨S2560x160, .bf16⟩
  | .hbm, ⟨5, _⟩ => ⟨S640x160x16, .i8⟩
  | .hbm, ⟨6, _⟩ => ⟨S640x160, .bf16⟩
  | .hbm, ⟨7, _⟩ => ⟨S640x160x16, .i8⟩
  | .hbm, ⟨8, _⟩ => ⟨S640x160, .bf16⟩
  | .hbm, ⟨9, _⟩ => ⟨S192x5120, .bf16⟩
  | .hbm, ⟨10, _⟩ => ⟨S40x128, .bf16⟩
  | .hbm, ⟨11, _⟩ => ⟨S1x192, .i32⟩
  | .hbm, ⟨12, _⟩ => ⟨S20x128x160x2x8, .i8⟩
  | .hbm, ⟨13, _⟩ => ⟨S160x2x20x8x128, .i8⟩
  | .hbm, ⟨14, _⟩ => ⟨S5x128x160x2x8, .i8⟩
  | .hbm, ⟨15, _⟩ => ⟨S160x2x5x8x128, .i8⟩
  | .hbm, ⟨16, _⟩ => ⟨S5x128x160x2x8, .i8⟩
  | .hbm, ⟨17, _⟩ => ⟨S160x2x5x8x128, .i8⟩
  | .hbm, ⟨18, _⟩ => ⟨S160x2560, .bf16⟩
  | .hbm, ⟨19, _⟩ => ⟨S160x640, .bf16⟩
  | .hbm, ⟨20, _⟩ => ⟨S160x640, .bf16⟩
  | .hbm, ⟨21, _⟩ => ⟨S20x192x128, .bf16⟩
  | .hbm, ⟨22, _⟩ => ⟨S5x192x128, .bf16⟩
  | .hbm, ⟨23, _⟩ => ⟨S5x192x128, .bf16⟩
  | .local _ .vmem, ⟨0, _⟩ => ⟨S192x5120, .bf16⟩
  | .local _ .vmem, ⟨1, _⟩ => ⟨S40x128, .bf16⟩
  | .local _ .vmem, ⟨2, _⟩ => ⟨S1x192, .i32⟩
  | .local _ .vmem, ⟨3, _⟩ => ⟨S160x2560, .bf16⟩
  | .local _ .vmem, ⟨4, _⟩ => ⟨S160x640, .bf16⟩
  | .local _ .vmem, ⟨5, _⟩ => ⟨S160x640, .bf16⟩
  | .local _ .vmem, ⟨6, _⟩ => ⟨S20x192x128, .bf16⟩
  | .local _ .vmem, ⟨7, _⟩ => ⟨S5x192x128, .bf16⟩
  | .local _ .vmem, ⟨8, _⟩ => ⟨S5x192x128, .bf16⟩
  | .local _ .vmem, ⟨9, _⟩ => ⟨S160x2x20x8x128, .i8⟩
  | .local _ .vmem, ⟨10, _⟩ => ⟨S160x2x5x8x128, .i8⟩
  | .local _ .vmem, ⟨11, _⟩ => ⟨S160x2x5x8x128, .i8⟩
  | .local _ .vmem, ⟨12, _⟩ => ⟨S192x5120, .bf16⟩
  | .local _ .vmem, ⟨13, _⟩ => ⟨S192x128, .f32⟩
  | .local _ .vmem, ⟨14, _⟩ => ⟨S192x128, .f32⟩
  | _, _ => ⟨S192x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_201 : BitVec 32 := 0#32
  let c20_i32 : BitVec 32 := 20#32
  let v712 : BitVec 32 := Scalar.addi c0_i32_201 c20_i32
  let c1_i32_202 : BitVec 32 := 1#32
  ⟨c0_i32_201, v712, c1_i32_202⟩
def k0_off1 (k0_t1 : Fin k0_t1_loop.trips) (c0_i32_639 : BitVec 32) : Fin 2 → Nat :=
  let c0_i32_201 : BitVec 32 := 0#32
  let c1_i32_202 : BitVec 32 := 1#32
  let arg19 : BitVec 32 := Scf.iv c0_i32_201 c1_i32_202 k0_t1
  let c8_i32 : BitVec 32 := 8#32
  let v1561 : BitVec 32 := Scalar.muli arg19 c8_i32
  let v1562 : BitVec 32 := Scalar.addi v1561 c0_i32_639
  let v1563 : Index := Scalar.indexCast v1562
  let c0_640 : Index := 0#32
  ![v1563.toNat, 0]
def k0_off2 (k0_t1 : Fin k0_t1_loop.trips) (c0_i32_639 : BitVec 32) : Fin 5 → Nat :=
  let c0_i32_201 : BitVec 32 := 0#32
  let c1_i32_202 : BitVec 32 := 1#32
  let arg19 : BitVec 32 := Scf.iv c0_i32_201 c1_i32_202 k0_t1
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c0_642 : Index := 0#32
  let c0_643 : Index := 0#32
  let c0_644 : Index := 0#32
  ![v1566.toNat, 0, 0, 0, 0]
def k0_off3 (k0_t1 : Fin k0_t1_loop.trips) (c0_i32_639 : BitVec 32) : Fin 5 → Nat :=
  let c0_i32_201 : BitVec 32 := 0#32
  let c1_i32_202 : BitVec 32 := 1#32
  let arg19 : BitVec 32 := Scf.iv c0_i32_201 c1_i32_202 k0_t1
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c0_647 : Index := 0#32
  let c0_648 : Index := 0#32
  let c0_649 : Index := 0#32
  ![v1603.toNat, 1, 0, 0, 0]
def k0_mult1 (k0_t1 : Fin k0_t1_loop.trips) : BitVec 32 :=
  let c0_i32_201 : BitVec 32 := 0#32
  let c1_i32_202 : BitVec 32 := 1#32
  let arg19 : BitVec 32 := Scf.iv c0_i32_201 c1_i32_202 k0_t1
  let c256_i32 : BitVec 32 := 256#32
  let v2193 : BitVec 32 := Scalar.muli arg19 c256_i32
  v2193
def k0_off4 (k0_t1 : Fin k0_t1_loop.trips) : Fin 2 → Nat :=
  let c0_783 : Index := 0#32
  let c0_i32_201 : BitVec 32 := 0#32
  let c1_i32_202 : BitVec 32 := 1#32
  let arg19 : BitVec 32 := Scf.iv c0_i32_201 c1_i32_202 k0_t1
  let c256_i32 : BitVec 32 := 256#32
  let v2193 : BitVec 32 := Scalar.muli arg19 c256_i32
  let v2194 : BitVec 32 := v2193
  let v2195 : Index := Scalar.indexCast v2194
  ![0, v2195.toNat]
@[reducible] def k0_t2_loop : Scf.Loop 32 :=
  let c0_i32_265 : BitVec 32 := 0#32
  let c20_i32_266 : BitVec 32 := 20#32
  let v843 : BitVec 32 := Scalar.addi c0_i32_265 c20_i32_266
  let c1_i32_267 : BitVec 32 := 1#32
  ⟨c0_i32_265, v843, c1_i32_267⟩
def k0_off5 (k0_t2 : Fin k0_t2_loop.trips) (c0_i32_639 : BitVec 32) : Fin 2 → Nat :=
  let c0_i32_265 : BitVec 32 := 0#32
  let c1_i32_267 : BitVec 32 := 1#32
  let arg19 : BitVec 32 := Scf.iv c0_i32_265 c1_i32_267 k0_t2
  let c8_i32 : BitVec 32 := 8#32
  let v1561 : BitVec 32 := Scalar.muli arg19 c8_i32
  let v1562 : BitVec 32 := Scalar.addi v1561 c0_i32_639
  let v1563 : Index := Scalar.indexCast v1562
  let c512_640 : Index := 512#32
  ![v1563.toNat, 512]
def k0_off6 (k0_t2 : Fin k0_t2_loop.trips) (c0_i32_639 : BitVec 32) : Fin 5 → Nat :=
  let c0_i32_265 : BitVec 32 := 0#32
  let c1_i32_267 : BitVec 32 := 1#32
  let arg19 : BitVec 32 := Scf.iv c0_i32_265 c1_i32_267 k0_t2
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c4_642 : Index := 4#32
  let c0_643 : Index := 0#32
  let c0_644 : Index := 0#32
  ![v1566.toNat, 0, 4, 0, 0]
def k0_off7 (k0_t2 : Fin k0_t2_loop.trips) (c0_i32_639 : BitVec 32) : Fin 5 → Nat :=
  let c0_i32_265 : BitVec 32 := 0#32
  let c1_i32_267 : BitVec 32 := 1#32
  let arg19 : BitVec 32 := Scf.iv c0_i32_265 c1_i32_267 k0_t2
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c4_647 : Index := 4#32
  let c0_648 : Index := 0#32
  let c0_649 : Index := 0#32
  ![v1603.toNat, 1, 4, 0, 0]
def k0_mult2 (k0_t2 : Fin k0_t2_loop.trips) : BitVec 32 :=
  let c0_i32_265 : BitVec 32 := 0#32
  let c1_i32_267 : BitVec 32 := 1#32
  let arg19 : BitVec 32 := Scf.iv c0_i32_265 c1_i32_267 k0_t2
  let c256_i32 : BitVec 32 := 256#32
  let v2193 : BitVec 32 := Scalar.muli arg19 c256_i32
  v2193
def k0_off8 (k0_t2 : Fin k0_t2_loop.trips) : Fin 2 → Nat :=
  let c0_783 : Index := 0#32
  let c0_i32_265 : BitVec 32 := 0#32
  let c1_i32_267 : BitVec 32 := 1#32
  let arg19 : BitVec 32 := Scf.iv c0_i32_265 c1_i32_267 k0_t2
  let c256_i32 : BitVec 32 := 256#32
  let v2193 : BitVec 32 := Scalar.muli arg19 c256_i32
  let v2194 : BitVec 32 := v2193
  let v2195 : Index := Scalar.indexCast v2194
  ![0, v2195.toNat]
@[reducible] def k0_t3_loop : Scf.Loop 32 :=
  let c0_i32_330 : BitVec 32 := 0#32
  let c20_i32_331 : BitVec 32 := 20#32
  let v974 : BitVec 32 := Scalar.addi c0_i32_330 c20_i32_331
  let c1_i32_332 : BitVec 32 := 1#32
  ⟨c0_i32_330, v974, c1_i32_332⟩
def k0_off9 (k0_t3 : Fin k0_t3_loop.trips) (c0_i32_639 : BitVec 32) : Fin 2 → Nat :=
  let c0_i32_330 : BitVec 32 := 0#32
  let c1_i32_332 : BitVec 32 := 1#32
  let arg19 : BitVec 32 := Scf.iv c0_i32_330 c1_i32_332 k0_t3
  let c8_i32 : BitVec 32 := 8#32
  let v1561 : BitVec 32 := Scalar.muli arg19 c8_i32
  let v1562 : BitVec 32 := Scalar.addi v1561 c0_i32_639
  let v1563 : Index := Scalar.indexCast v1562
  let c1024_640 : Index := 1024#32
  ![v1563.toNat, 1024]
def k0_off10 (k0_t3 : Fin k0_t3_loop.trips) (c0_i32_639 : BitVec 32) : Fin 5 → Nat :=
  let c0_i32_330 : BitVec 32 := 0#32
  let c1_i32_332 : BitVec 32 := 1#32
  let arg19 : BitVec 32 := Scf.iv c0_i32_330 c1_i32_332 k0_t3
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c8_642 : Index := 8#32
  let c0_643 : Index := 0#32
  let c0_644 : Index := 0#32
  ![v1566.toNat, 0, 8, 0, 0]
def k0_off11 (k0_t3 : Fin k0_t3_loop.trips) (c0_i32_639 : BitVec 32) : Fin 5 → Nat :=
  let c0_i32_330 : BitVec 32 := 0#32
  let c1_i32_332 : BitVec 32 := 1#32
  let arg19 : BitVec 32 := Scf.iv c0_i32_330 c1_i32_332 k0_t3
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c8_647 : Index := 8#32
  let c0_648 : Index := 0#32
  let c0_649 : Index := 0#32
  ![v1603.toNat, 1, 8, 0, 0]
def k0_mult3 (k0_t3 : Fin k0_t3_loop.trips) : BitVec 32 :=
  let c0_i32_330 : BitVec 32 := 0#32
  let c1_i32_332 : BitVec 32 := 1#32
  let arg19 : BitVec 32 := Scf.iv c0_i32_330 c1_i32_332 k0_t3
  let c256_i32 : BitVec 32 := 256#32
  let v2193 : BitVec 32 := Scalar.muli arg19 c256_i32
  v2193
def k0_off12 (k0_t3 : Fin k0_t3_loop.trips) : Fin 2 → Nat :=
  let c0_783 : Index := 0#32
  let c0_i32_330 : BitVec 32 := 0#32
  let c1_i32_332 : BitVec 32 := 1#32
  let arg19 : BitVec 32 := Scf.iv c0_i32_330 c1_i32_332 k0_t3
  let c256_i32 : BitVec 32 := 256#32
  let v2193 : BitVec 32 := Scalar.muli arg19 c256_i32
  let v2194 : BitVec 32 := v2193
  let v2195 : Index := Scalar.indexCast v2194
  ![0, v2195.toNat]
@[reducible] def k0_t4_loop : Scf.Loop 32 :=
  let c0_i32_395 : BitVec 32 := 0#32
  let c20_i32_396 : BitVec 32 := 20#32
  let v1105 : BitVec 32 := Scalar.addi c0_i32_395 c20_i32_396
  let c1_i32_397 : BitVec 32 := 1#32
  ⟨c0_i32_395, v1105, c1_i32_397⟩
def k0_off13 (k0_t4 : Fin k0_t4_loop.trips) (c0_i32_639 : BitVec 32) : Fin 2 → Nat :=
  let c0_i32_395 : BitVec 32 := 0#32
  let c1_i32_397 : BitVec 32 := 1#32
  let arg19 : BitVec 32 := Scf.iv c0_i32_395 c1_i32_397 k0_t4
  let c8_i32 : BitVec 32 := 8#32
  let v1561 : BitVec 32 := Scalar.muli arg19 c8_i32
  let v1562 : BitVec 32 := Scalar.addi v1561 c0_i32_639
  let v1563 : Index := Scalar.indexCast v1562
  let c1536_640 : Index := 1536#32
  ![v1563.toNat, 1536]
def k0_off14 (k0_t4 : Fin k0_t4_loop.trips) (c0_i32_639 : BitVec 32) : Fin 5 → Nat :=
  let c0_i32_395 : BitVec 32 := 0#32
  let c1_i32_397 : BitVec 32 := 1#32
  let arg19 : BitVec 32 := Scf.iv c0_i32_395 c1_i32_397 k0_t4
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c12_642 : Index := 12#32
  let c0_643 : Index := 0#32
  let c0_644 : Index := 0#32
  ![v1566.toNat, 0, 12, 0, 0]
def k0_off15 (k0_t4 : Fin k0_t4_loop.trips) (c0_i32_639 : BitVec 32) : Fin 5 → Nat :=
  let c0_i32_395 : BitVec 32 := 0#32
  let c1_i32_397 : BitVec 32 := 1#32
  let arg19 : BitVec 32 := Scf.iv c0_i32_395 c1_i32_397 k0_t4
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c12_647 : Index := 12#32
  let c0_648 : Index := 0#32
  let c0_649 : Index := 0#32
  ![v1603.toNat, 1, 12, 0, 0]
def k0_mult4 (k0_t4 : Fin k0_t4_loop.trips) : BitVec 32 :=
  let c0_i32_395 : BitVec 32 := 0#32
  let c1_i32_397 : BitVec 32 := 1#32
  let arg19 : BitVec 32 := Scf.iv c0_i32_395 c1_i32_397 k0_t4
  let c256_i32 : BitVec 32 := 256#32
  let v2193 : BitVec 32 := Scalar.muli arg19 c256_i32
  v2193
def k0_off16 (k0_t4 : Fin k0_t4_loop.trips) : Fin 2 → Nat :=
  let c0_783 : Index := 0#32
  let c0_i32_395 : BitVec 32 := 0#32
  let c1_i32_397 : BitVec 32 := 1#32
  let arg19 : BitVec 32 := Scf.iv c0_i32_395 c1_i32_397 k0_t4
  let c256_i32 : BitVec 32 := 256#32
  let v2193 : BitVec 32 := Scalar.muli arg19 c256_i32
  let v2194 : BitVec 32 := v2193
  let v2195 : Index := Scalar.indexCast v2194
  ![0, v2195.toNat]
@[reducible] def k0_t5_loop : Scf.Loop 32 :=
  let c0_i32_460 : BitVec 32 := 0#32
  let c20_i32_461 : BitVec 32 := 20#32
  let v1236 : BitVec 32 := Scalar.addi c0_i32_460 c20_i32_461
  let c1_i32_462 : BitVec 32 := 1#32
  ⟨c0_i32_460, v1236, c1_i32_462⟩
def k0_off17 (k0_t5 : Fin k0_t5_loop.trips) (c0_i32_639 : BitVec 32) : Fin 2 → Nat :=
  let c0_i32_460 : BitVec 32 := 0#32
  let c1_i32_462 : BitVec 32 := 1#32
  let arg19 : BitVec 32 := Scf.iv c0_i32_460 c1_i32_462 k0_t5
  let c8_i32 : BitVec 32 := 8#32
  let v1561 : BitVec 32 := Scalar.muli arg19 c8_i32
  let v1562 : BitVec 32 := Scalar.addi v1561 c0_i32_639
  let v1563 : Index := Scalar.indexCast v1562
  let c2048_640 : Index := 2048#32
  ![v1563.toNat, 2048]
def k0_off18 (k0_t5 : Fin k0_t5_loop.trips) (c0_i32_639 : BitVec 32) : Fin 5 → Nat :=
  let c0_i32_460 : BitVec 32 := 0#32
  let c1_i32_462 : BitVec 32 := 1#32
  let arg19 : BitVec 32 := Scf.iv c0_i32_460 c1_i32_462 k0_t5
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c16_642 : Index := 16#32
  let c0_643 : Index := 0#32
  let c0_644 : Index := 0#32
  ![v1566.toNat, 0, 16, 0, 0]
def k0_off19 (k0_t5 : Fin k0_t5_loop.trips) (c0_i32_639 : BitVec 32) : Fin 5 → Nat :=
  let c0_i32_460 : BitVec 32 := 0#32
  let c1_i32_462 : BitVec 32 := 1#32
  let arg19 : BitVec 32 := Scf.iv c0_i32_460 c1_i32_462 k0_t5
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c16_647 : Index := 16#32
  let c0_648 : Index := 0#32
  let c0_649 : Index := 0#32
  ![v1603.toNat, 1, 16, 0, 0]
def k0_mult5 (k0_t5 : Fin k0_t5_loop.trips) : BitVec 32 :=
  let c0_i32_460 : BitVec 32 := 0#32
  let c1_i32_462 : BitVec 32 := 1#32
  let arg19 : BitVec 32 := Scf.iv c0_i32_460 c1_i32_462 k0_t5
  let c256_i32 : BitVec 32 := 256#32
  let v2193 : BitVec 32 := Scalar.muli arg19 c256_i32
  v2193
def k0_off20 (k0_t5 : Fin k0_t5_loop.trips) : Fin 2 → Nat :=
  let c0_783 : Index := 0#32
  let c0_i32_460 : BitVec 32 := 0#32
  let c1_i32_462 : BitVec 32 := 1#32
  let arg19 : BitVec 32 := Scf.iv c0_i32_460 c1_i32_462 k0_t5
  let c256_i32 : BitVec 32 := 256#32
  let v2193 : BitVec 32 := Scalar.muli arg19 c256_i32
  let v2194 : BitVec 32 := v2193
  let v2195 : Index := Scalar.indexCast v2194
  ![0, v2195.toNat]
@[reducible] def k0_t6_loop : Scf.Loop 32 :=
  let c0_i32_525 : BitVec 32 := 0#32
  let c20_i32_526 : BitVec 32 := 20#32
  let v1367 : BitVec 32 := Scalar.addi c0_i32_525 c20_i32_526
  let c1_i32_527 : BitVec 32 := 1#32
  ⟨c0_i32_525, v1367, c1_i32_527⟩
def k0_off21 (k0_t6 : Fin k0_t6_loop.trips) (c0_i32_639 : BitVec 32) : Fin 2 → Nat :=
  let c0_i32_525 : BitVec 32 := 0#32
  let c1_i32_527 : BitVec 32 := 1#32
  let arg19 : BitVec 32 := Scf.iv c0_i32_525 c1_i32_527 k0_t6
  let c8_i32 : BitVec 32 := 8#32
  let v1561 : BitVec 32 := Scalar.muli arg19 c8_i32
  let v1562 : BitVec 32 := Scalar.addi v1561 c0_i32_639
  let v1563 : Index := Scalar.indexCast v1562
  let c0_640 : Index := 0#32
  ![v1563.toNat, 0]
def k0_off22 (k0_t6 : Fin k0_t6_loop.trips) (c0_i32_639 : BitVec 32) : Fin 5 → Nat :=
  let c0_i32_525 : BitVec 32 := 0#32
  let c1_i32_527 : BitVec 32 := 1#32
  let arg19 : BitVec 32 := Scf.iv c0_i32_525 c1_i32_527 k0_t6
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c0_642 : Index := 0#32
  let c0_643 : Index := 0#32
  let c0_644 : Index := 0#32
  ![v1566.toNat, 0, 0, 0, 0]
def k0_off23 (k0_t6 : Fin k0_t6_loop.trips) (c0_i32_639 : BitVec 32) : Fin 5 → Nat :=
  let c0_i32_525 : BitVec 32 := 0#32
  let c1_i32_527 : BitVec 32 := 1#32
  let arg19 : BitVec 32 := Scf.iv c0_i32_525 c1_i32_527 k0_t6
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c0_647 : Index := 0#32
  let c0_648 : Index := 0#32
  let c0_649 : Index := 0#32
  ![v1603.toNat, 1, 0, 0, 0]
def k0_mult6 (k0_t6 : Fin k0_t6_loop.trips) : BitVec 32 :=
  let c0_i32_525 : BitVec 32 := 0#32
  let c1_i32_527 : BitVec 32 := 1#32
  let arg19 : BitVec 32 := Scf.iv c0_i32_525 c1_i32_527 k0_t6
  let c256_i32 : BitVec 32 := 256#32
  let v2193 : BitVec 32 := Scalar.muli arg19 c256_i32
  v2193
def k0_off24 (k0_t6 : Fin k0_t6_loop.trips) : Fin 2 → Nat :=
  let c0_783 : Index := 0#32
  let c0_i32_525 : BitVec 32 := 0#32
  let c1_i32_527 : BitVec 32 := 1#32
  let arg19 : BitVec 32 := Scf.iv c0_i32_525 c1_i32_527 k0_t6
  let c256_i32 : BitVec 32 := 256#32
  let v2193 : BitVec 32 := Scalar.muli arg19 c256_i32
  let v2194 : BitVec 32 := v2193
  let v2195 : Index := Scalar.indexCast v2194
  ![0, v2195.toNat]
@[reducible] def k0_t7_loop : Scf.Loop 32 :=
  let c0_i32_594 : BitVec 32 := 0#32
  let c20_i32_595 : BitVec 32 := 20#32
  let v1498 : BitVec 32 := Scalar.addi c0_i32_594 c20_i32_595
  let c1_i32_596 : BitVec 32 := 1#32
  ⟨c0_i32_594, v1498, c1_i32_596⟩
def k0_off25 (k0_t7 : Fin k0_t7_loop.trips) (c0_i32_639 : BitVec 32) : Fin 2 → Nat :=
  let c0_i32_594 : BitVec 32 := 0#32
  let c1_i32_596 : BitVec 32 := 1#32
  let arg19 : BitVec 32 := Scf.iv c0_i32_594 c1_i32_596 k0_t7
  let c8_i32 : BitVec 32 := 8#32
  let v1561 : BitVec 32 := Scalar.muli arg19 c8_i32
  let v1562 : BitVec 32 := Scalar.addi v1561 c0_i32_639
  let v1563 : Index := Scalar.indexCast v1562
  let c512_640 : Index := 512#32
  ![v1563.toNat, 512]
def k0_off26 (k0_t7 : Fin k0_t7_loop.trips) (c0_i32_639 : BitVec 32) : Fin 5 → Nat :=
  let c0_i32_594 : BitVec 32 := 0#32
  let c1_i32_596 : BitVec 32 := 1#32
  let arg19 : BitVec 32 := Scf.iv c0_i32_594 c1_i32_596 k0_t7
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c4_642 : Index := 4#32
  let c0_643 : Index := 0#32
  let c0_644 : Index := 0#32
  ![v1566.toNat, 0, 4, 0, 0]
def k0_off27 (k0_t7 : Fin k0_t7_loop.trips) (c0_i32_639 : BitVec 32) : Fin 5 → Nat :=
  let c0_i32_594 : BitVec 32 := 0#32
  let c1_i32_596 : BitVec 32 := 1#32
  let arg19 : BitVec 32 := Scf.iv c0_i32_594 c1_i32_596 k0_t7
  let c8_i32 : BitVec 32 := 8#32
  let v1561 : BitVec 32 := Scalar.muli arg19 c8_i32
  let v1562 : BitVec 32 := Scalar.addi v1561 c0_i32_639
  let v1588 : Index := Scalar.indexCast v1562
  let c1_646 : Index := 1#32
  let c4_647 : Index := 4#32
  let c0_648 : Index := 0#32
  let c0_649 : Index := 0#32
  ![v1588.toNat, 1, 4, 0, 0]
def k0_mult7 (k0_t7 : Fin k0_t7_loop.trips) : BitVec 32 :=
  let c0_i32_594 : BitVec 32 := 0#32
  let c1_i32_596 : BitVec 32 := 1#32
  let arg19 : BitVec 32 := Scf.iv c0_i32_594 c1_i32_596 k0_t7
  let c256_i32 : BitVec 32 := 256#32
  let v1953 : BitVec 32 := Scalar.muli arg19 c256_i32
  v1953
def k0_off28 (k0_t7 : Fin k0_t7_loop.trips) : Fin 2 → Nat :=
  let c0_783 : Index := 0#32
  let c0_i32_594 : BitVec 32 := 0#32
  let c1_i32_596 : BitVec 32 := 1#32
  let arg19 : BitVec 32 := Scf.iv c0_i32_594 c1_i32_596 k0_t7
  let c256_i32 : BitVec 32 := 256#32
  let v1953 : BitVec 32 := Scalar.muli arg19 c256_i32
  let v1954 : BitVec 32 := v1953
  let v1955 : Index := Scalar.indexCast v1954
  ![0, v1955.toNat]
@[reducible] def k0_t8_loop : Scf.Loop 32 :=
  let c0_i32_615 : BitVec 32 := 0#32
  let c20_i32_616 : BitVec 32 := 20#32
  let v1532 : BitVec 32 := Scalar.addi c0_i32_615 c20_i32_616
  let c1_i32_617 : BitVec 32 := 1#32
  ⟨c0_i32_615, v1532, c1_i32_617⟩
def k0_off29 (k0_t8 : Fin k0_t8_loop.trips) (c0_i32_639 : BitVec 32) : Fin 2 → Nat :=
  let c0_i32_615 : BitVec 32 := 0#32
  let c1_i32_617 : BitVec 32 := 1#32
  let arg19 : BitVec 32 := Scf.iv c0_i32_615 c1_i32_617 k0_t8
  let c8_i32 : BitVec 32 := 8#32
  let v1561 : BitVec 32 := Scalar.muli arg19 c8_i32
  let v1562 : BitVec 32 := Scalar.addi v1561 c0_i32_639
  let v1563 : Index := Scalar.indexCast v1562
  let c0_640 : Index := 0#32
  ![v1563.toNat, 0]
def k0_off30 (k0_t8 : Fin k0_t8_loop.trips) (c0_i32_639 : BitVec 32) : Fin 5 → Nat :=
  let c0_i32_615 : BitVec 32 := 0#32
  let c1_i32_617 : BitVec 32 := 1#32
  let arg19 : BitVec 32 := Scf.iv c0_i32_615 c1_i32_617 k0_t8
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c0_642 : Index := 0#32
  let c0_643 : Index := 0#32
  let c0_644 : Index := 0#32
  ![v1566.toNat, 0, 0, 0, 0]
def k0_off31 (k0_t8 : Fin k0_t8_loop.trips) (c0_i32_639 : BitVec 32) : Fin 5 → Nat :=
  let c0_i32_615 : BitVec 32 := 0#32
  let c1_i32_617 : BitVec 32 := 1#32
  let arg19 : BitVec 32 := Scf.iv c0_i32_615 c1_i32_617 k0_t8
  let c8_i32 : BitVec 32 := 8#32
  let v1561 : BitVec 32 := Scalar.muli arg19 c8_i32
  let v1562 : BitVec 32 := Scalar.addi v1561 c0_i32_639
  let v1603 : Index := Scalar.indexCast v1562
  let c1_646 : Index := 1#32
  let c0_647 : Index := 0#32
  let c0_648 : Index := 0#32
  let c0_649 : Index := 0#32
  ![v1603.toNat, 1, 0, 0, 0]
def k0_mult8 (k0_t8 : Fin k0_t8_loop.trips) : BitVec 32 :=
  let c0_i32_615 : BitVec 32 := 0#32
  let c1_i32_617 : BitVec 32 := 1#32
  let arg19 : BitVec 32 := Scf.iv c0_i32_615 c1_i32_617 k0_t8
  let c256_i32 : BitVec 32 := 256#32
  let v2193 : BitVec 32 := Scalar.muli arg19 c256_i32
  v2193
def k0_off32 (k0_t8 : Fin k0_t8_loop.trips) : Fin 2 → Nat :=
  let c0_783 : Index := 0#32
  let c0_i32_615 : BitVec 32 := 0#32
  let c1_i32_617 : BitVec 32 := 1#32
  let arg19 : BitVec 32 := Scf.iv c0_i32_615 c1_i32_617 k0_t8
  let c256_i32 : BitVec 32 := 256#32
  let v2193 : BitVec 32 := Scalar.muli arg19 c256_i32
  let v2194 : BitVec 32 := v2193
  let v2195 : Index := Scalar.indexCast v2194
  ![0, v2195.toNat]
@[reducible] def k0_t9_loop : Scf.Loop 32 :=
  let c0_i32_632 : BitVec 32 := 0#32
  let c20_i32_633 : BitVec 32 := 20#32
  let v1555 : BitVec 32 := Scalar.addi c0_i32_632 c20_i32_633
  let c1_i32_634 : BitVec 32 := 1#32
  ⟨c0_i32_632, v1555, c1_i32_634⟩
def k0_off33 (k0_t9 : Fin k0_t9_loop.trips) (c0_i32_639 : BitVec 32) : Fin 2 → Nat :=
  let c0_i32_632 : BitVec 32 := 0#32
  let c1_i32_634 : BitVec 32 := 1#32
  let arg19 : BitVec 32 := Scf.iv c0_i32_632 c1_i32_634 k0_t9
  let c8_i32 : BitVec 32 := 8#32
  let v1561 : BitVec 32 := Scalar.muli arg19 c8_i32
  let v1562 : BitVec 32 := Scalar.addi v1561 c0_i32_639
  let v1563 : Index := Scalar.indexCast v1562
  let c512_640 : Index := 512#32
  ![v1563.toNat, 512]
def k0_off34 (k0_t9 : Fin k0_t9_loop.trips) (c0_i32_639 : BitVec 32) : Fin 5 → Nat :=
  let c0_i32_632 : BitVec 32 := 0#32
  let c1_i32_634 : BitVec 32 := 1#32
  let arg19 : BitVec 32 := Scf.iv c0_i32_632 c1_i32_634 k0_t9
  let c8_i32 : BitVec 32 := 8#32
  let v1561 : BitVec 32 := Scalar.muli arg19 c8_i32
  let v1562 : BitVec 32 := Scalar.addi v1561 c0_i32_639
  let v1566 : Index := Scalar.indexCast v1562
  let c0_641 : Index := 0#32
  let c4_642 : Index := 4#32
  let c0_643 : Index := 0#32
  let c0_644 : Index := 0#32
  ![v1566.toNat, 0, 4, 0, 0]
def k0_off35 (k0_t9 : Fin k0_t9_loop.trips) (c0_i32_639 : BitVec 32) : Fin 5 → Nat :=
  let c0_i32_632 : BitVec 32 := 0#32
  let c1_i32_634 : BitVec 32 := 1#32
  let arg19 : BitVec 32 := Scf.iv c0_i32_632 c1_i32_634 k0_t9
  let c8_i32 : BitVec 32 := 8#32
  let v1561 : BitVec 32 := Scalar.muli arg19 c8_i32
  let v1562 : BitVec 32 := Scalar.addi v1561 c0_i32_639
  let v1588 : Index := Scalar.indexCast v1562
  let c1_646 : Index := 1#32
  let c4_647 : Index := 4#32
  let c0_648 : Index := 0#32
  let c0_649 : Index := 0#32
  ![v1588.toNat, 1, 4, 0, 0]
def k0_mult9 (k0_t9 : Fin k0_t9_loop.trips) : BitVec 32 :=
  let c0_i32_632 : BitVec 32 := 0#32
  let c1_i32_634 : BitVec 32 := 1#32
  let arg19 : BitVec 32 := Scf.iv c0_i32_632 c1_i32_634 k0_t9
  let c256_i32 : BitVec 32 := 256#32
  let v1953 : BitVec 32 := Scalar.muli arg19 c256_i32
  v1953
def k0_off36 (k0_t9 : Fin k0_t9_loop.trips) : Fin 2 → Nat :=
  let c0_783 : Index := 0#32
  let c0_i32_632 : BitVec 32 := 0#32
  let c1_i32_634 : BitVec 32 := 1#32
  let arg19 : BitVec 32 := Scf.iv c0_i32_632 c1_i32_634 k0_t9
  let c256_i32 : BitVec 32 := 256#32
  let v1953 : BitVec 32 := Scalar.muli arg19 c256_i32
  let v1954 : BitVec 32 := v1953
  let v1955 : Index := Scalar.indexCast v1954
  ![0, v1955.toNat]
abbrev stage0_0 : Fin 1 → Memref sig .tc .vmem S192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x192x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x192x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S192x1x5120 : Shape := ⟨3, ![192, 1, 5120]⟩
abbrev S5120 : Shape := ⟨1, ![5120]⟩
abbrev S192x1 : Shape := ⟨2, ![192, 1]⟩
abbrev S2560x160x16 : Shape := ⟨3, ![2560, 160, 16]⟩
abbrev S2560x160 : Shape := ⟨2, ![2560, 160]⟩
abbrev S640x160x16 : Shape := ⟨3, ![640, 160, 16]⟩
abbrev S640x160 : Shape := ⟨2, ![640, 160]⟩
abbrev S192x5120 : Shape := ⟨2, ![192, 5120]⟩
abbrev S_ : Shape := ⟨0, ![]⟩
abbrev S192 : Shape := ⟨1, ![192]⟩
abbrev S1x5120 : Shape := ⟨2, ![1, 5120]⟩
abbrev S192x160x2x16 : Shape := ⟨4, ![192, 160, 2, 16]⟩
abbrev S192x160x1x16 : Shape := ⟨4, ![192, 160, 1, 16]⟩
abbrev S192x160x16 : Shape := ⟨3, ![192, 160, 16]⟩
abbrev S192x2560 : Shape := ⟨2, ![192, 2560]⟩
abbrev S64 : Shape := ⟨1, ![64]⟩
abbrev S1x64 : Shape := ⟨2, ![1, 64]⟩
abbrev S192x64 : Shape := ⟨2, ![192, 64]⟩
abbrev S192x64x2 : Shape := ⟨3, ![192, 64, 2]⟩
abbrev S192x128 : Shape := ⟨2, ![192, 128]⟩
abbrev S192x1x128 : Shape := ⟨3, ![192, 1, 128]⟩
abbrev S128 : Shape := ⟨1, ![128]⟩
abbrev S2560x2560 : Shape := ⟨2, ![2560, 2560]⟩
abbrev S192x20x128 : Shape := ⟨3, ![192, 20, 128]⟩
abbrev S640x2560 : Shape := ⟨2, ![640, 2560]⟩
abbrev S192x640 : Shape := ⟨2, ![192, 640]⟩
abbrev S192x5x128 : Shape := ⟨3, ![192, 5, 128]⟩
abbrev S192x20x127 : Shape := ⟨3, ![192, 20, 127]⟩
abbrev S192x20x1 : Shape := ⟨3, ![192, 20, 1]⟩
abbrev S192x5x127 : Shape := ⟨3, ![192, 5, 127]⟩
abbrev S192x5x1 : Shape := ⟨3, ![192, 5, 1]⟩
abbrev S20x192x128 : Shape := ⟨3, ![20, 192, 128]⟩
abbrev S5x192x128 : Shape := ⟨3, ![5, 192, 128]⟩

abbrev nBuf : Space → Nat
  | .hbm => 202
  | .vmem => 0
  | .smem => 0
  | _ => 0

abbrev hbmTy0_0 (i : Nat) : BufTy := match i % 128 with
  | 0 => ⟨S192x1x5120, .bf16⟩
  | 1 => ⟨S5120, .bf16⟩
  | 2 => ⟨S192x1, .i32⟩
  | 3 => ⟨S2560x160x16, .i8⟩
  | 4 => ⟨S2560x160, .bf16⟩
  | 5 => ⟨S640x160x16, .i8⟩
  | 6 => ⟨S640x160, .bf16⟩
  | 7 => ⟨S640x160x16, .i8⟩
  | 8 => ⟨S640x160, .bf16⟩
  | 9 => ⟨S192x5120, .bf16⟩
  | 10 => ⟨S192x5120, .f32⟩
  | 11 => ⟨S192x5120, .f32⟩
  | 12 => ⟨S_, .f32⟩
  | 13 => ⟨S192, .f32⟩
  | 14 => ⟨S192x1, .f32⟩
  | 15 => ⟨S_, .f32⟩
  | 16 => ⟨S192x1, .f32⟩
  | 17 => ⟨S192x1, .f32⟩
  | 18 => ⟨S_, .f32⟩
  | 19 => ⟨S192x1, .f32⟩
  | 20 => ⟨S192x1, .f32⟩
  | 21 => ⟨S192x1, .f32⟩
  | 22 => ⟨S192x5120, .f32⟩
  | 23 => ⟨S192x5120, .f32⟩
  | 24 => ⟨S5120, .f32⟩
  | 25 => ⟨S1x5120, .f32⟩
  | 26 => ⟨S192x5120, .f32⟩
  | 27 => ⟨S192x5120, .f32⟩
  | 28 => ⟨S192x5120, .bf16⟩
  | 29 => ⟨S192x160x2x16, .bf16⟩
  | 30 => ⟨S192x160x1x16, .bf16⟩
  | 31 => ⟨S192x160x16, .bf16⟩
  | 32 => ⟨S192x2560, .bf16⟩
  | 33 => ⟨S192x160x1x16, .bf16⟩
  | 34 => ⟨S192x160x16, .bf16⟩
  | 35 => ⟨S192x2560, .bf16⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S192x1, .f32⟩
  | 51 => ⟨S1x64, .f32⟩
  | 52 => ⟨S192x64, .f32⟩
  | 53 => ⟨S192x64, .f32⟩
  | 54 => ⟨S192x64, .f32⟩
  | 55 => ⟨S192x64, .f32⟩
  | 56 => ⟨S192x64x2, .f32⟩
  | 57 => ⟨S192x128, .f32⟩
  | 58 => ⟨S192x1x128, .f32⟩
  | 59 => ⟨S192x64, .f32⟩
  | 60 => ⟨S192x64x2, .f32⟩
  | 61 => ⟨S192x128, .f32⟩
  | 62 => ⟨S192x1x128, .f32⟩
  | 63 => ⟨S128, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S128, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i1⟩
  | 78 => ⟨S_, .i32⟩
  | 79 => ⟨S_, .i1⟩
  | 80 => ⟨S128, .i1⟩
  | 81 => ⟨S128, .i1⟩
  | 82 => ⟨S128, .i1⟩
  | 83 => ⟨S128, .i32⟩
  | 84 => ⟨S128, .i32⟩
  | 85 => ⟨S128, .i32⟩
  | 86 => ⟨S_, .i32⟩
  | 87 => ⟨S128, .i32⟩
  | 88 => ⟨S128, .i1⟩
  | 89 => ⟨S192x1x128, .f32⟩
  | 90 => ⟨S192x1x128, .i1⟩
  | 91 => ⟨S192x1x128, .f32⟩
  | 92 => ⟨S2560x2560, .i8⟩
  | 93 => ⟨S2560x2560, .i32⟩
  | 94 => ⟨S2560x160x16, .bf16⟩
  | 95 => ⟨S2560x2560, .bf16⟩
  | 96 => ⟨S_, .i32⟩
  | 97 => ⟨S2560x2560, .i32⟩
  | 98 => ⟨S2560x2560, .i32⟩
  | 99 => ⟨S_, .i32⟩
  | 100 => ⟨S2560x2560, .i32⟩
  | 101 => ⟨S2560x2560, .i32⟩
  | 102 => ⟨S2560x2560, .f32⟩
  | 103 => ⟨S2560x2560, .bf16⟩
  | 104 => ⟨S2560x2560, .bf16⟩
  | 105 => ⟨S_, .i32⟩
  | 106 => ⟨S2560x2560, .i32⟩
  | 107 => ⟨S2560x2560, .i32⟩
  | 108 => ⟨S_, .i32⟩
  | 109 => ⟨S2560x2560, .i32⟩
  | 110 => ⟨S2560x2560, .i32⟩
  | 111 => ⟨S2560x2560, .f32⟩
  | 112 => ⟨S2560x2560, .bf16⟩
  | 113 => ⟨S2560x2560, .bf16⟩
  | 114 => ⟨S192x2560, .f32⟩
  | 115 => ⟨S192x2560, .f32⟩
  | 116 => ⟨S192x2560, .f32⟩
  | 117 => ⟨S192x20x128, .f32⟩
  | 118 => ⟨S640x2560, .i8⟩
  | 119 => ⟨S640x2560, .i32⟩
  | 120 => ⟨S640x160x16, .bf16⟩
  | 121 => ⟨S640x2560, .bf16⟩
  | 122 => ⟨S_, .i32⟩
  | 123 => ⟨S640x2560, .i32⟩
  | 124 => ⟨S640x2560, .i32⟩
  | 125 => ⟨S_, .i32⟩
  | 126 => ⟨S640x2560, .i32⟩
  | 127 => ⟨S640x2560, .i32⟩
  | _ => ⟨S192x1x5120, .bf16⟩

abbrev hbmTy0_1 (i : Nat) : BufTy := match i % 128 with
  | 0 => ⟨S640x2560, .f32⟩
  | 1 => ⟨S640x2560, .bf16⟩
  | 2 => ⟨S640x2560, .bf16⟩
  | 3 => ⟨S_, .i32⟩
  | 4 => ⟨S640x2560, .i32⟩
  | 5 => ⟨S640x2560, .i32⟩
  | 6 => ⟨S_, .i32⟩
  | 7 => ⟨S640x2560, .i32⟩
  | 8 => ⟨S640x2560, .i32⟩
  | 9 => ⟨S640x2560, .f32⟩
  | 10 => ⟨S640x2560, .bf16⟩
  | 11 => ⟨S640x2560, .bf16⟩
  | 12 => ⟨S192x640, .f32⟩
  | 13 => ⟨S192x640, .f32⟩
  | 14 => ⟨S192x640, .f32⟩
  | 15 => ⟨S192x5x128, .f32⟩
  | 16 => ⟨S640x2560, .i8⟩
  | 17 => ⟨S640x2560, .i32⟩
  | 18 => ⟨S640x160x16, .bf16⟩
  | 19 => ⟨S640x2560, .bf16⟩
  | 20 => ⟨S_, .i32⟩
  | 21 => ⟨S640x2560, .i32⟩
  | 22 => ⟨S640x2560, .i32⟩
  | 23 => ⟨S_, .i32⟩
  | 24 => ⟨S640x2560, .i32⟩
  | 25 => ⟨S640x2560, .i32⟩
  | 26 => ⟨S640x2560, .f32⟩
  | 27 => ⟨S640x2560, .bf16⟩
  | 28 => ⟨S640x2560, .bf16⟩
  | 29 => ⟨S_, .i32⟩
  | 30 => ⟨S640x2560, .i32⟩
  | 31 => ⟨S640x2560, .i32⟩
  | 32 => ⟨S_, .i32⟩
  | 33 => ⟨S640x2560, .i32⟩
  | 34 => ⟨S640x2560, .i32⟩
  | 35 => ⟨S640x2560, .f32⟩
  | 36 => ⟨S640x2560, .bf16⟩
  | 37 => ⟨S640x2560, .bf16⟩
  | 38 => ⟨S192x640, .f32⟩
  | 39 => ⟨S192x640, .f32⟩
  | 40 => ⟨S192x640, .f32⟩
  | 41 => ⟨S192x5x128, .f32⟩
  | 42 => ⟨S192x20x127, .f32⟩
  | 43 => ⟨S192x20x1, .f32⟩
  | 44 => ⟨S192x20x128, .f32⟩
  | 45 => ⟨S192x20x1, .f32⟩
  | 46 => ⟨S192x20x127, .f32⟩
  | 47 => ⟨S192x20x128, .f32⟩
  | 48 => ⟨S192x20x128, .f32⟩
  | 49 => ⟨S192x20x128, .f32⟩
  | 50 => ⟨S192x20x128, .i1⟩
  | 51 => ⟨S192x20x128, .f32⟩
  | 52 => ⟨S192x20x128, .f32⟩
  | 53 => ⟨S192x20x128, .f32⟩
  | 54 => ⟨S192x20x128, .f32⟩
  | 55 => ⟨S192x5x127, .f32⟩
  | 56 => ⟨S192x5x1, .f32⟩
  | 57 => ⟨S192x5x128, .f32⟩
  | 58 => ⟨S192x5x1, .f32⟩
  | 59 => ⟨S192x5x127, .f32⟩
  | 60 => ⟨S192x5x128, .f32⟩
  | 61 => ⟨S192x5x128, .f32⟩
  | 62 => ⟨S192x5x128, .f32⟩
  | 63 => ⟨S192x5x128, .i1⟩
  | 64 => ⟨S192x5x128, .f32⟩
  | 65 => ⟨S192x5x128, .f32⟩
  | 66 => ⟨S192x5x128, .f32⟩
  | 67 => ⟨S192x5x128, .f32⟩
  | 68 => ⟨S192x20x128, .bf16⟩
  | 69 => ⟨S20x192x128, .bf16⟩
  | 70 => ⟨S192x5x128, .bf16⟩
  | 71 => ⟨S5x192x128, .bf16⟩
  | 72 => ⟨S192x5x128, .bf16⟩
  | 73 => ⟨S5x192x128, .bf16⟩
  | _ => ⟨S192x1x5120, .bf16⟩

abbrev hbmTy (i : Nat) : BufTy := match i / 128 with
  | 0 => hbmTy0_0 i
  | 1 => hbmTy0_1 i
  | _ => ⟨S192x1x5120, .bf16⟩

abbrev bufTy : (tb : Table) → Fin (tcTables nBuf tb) → BufTy
  | .hbm, ⟨i, _⟩ => hbmTy i
  | _, _ => ⟨S192x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_1 : Ref sig .tc := ⟨.hbm, 72, rfl⟩
abbrev main_call0_v5 : Ref sig .tc := ⟨.hbm, 73, rfl⟩
abbrev main_call0_v6 : Ref sig .tc := ⟨.hbm, 74, rfl⟩
abbrev main_call0_c_2 : Ref sig .tc := ⟨.hbm, 75, rfl⟩
abbrev main_call0_v7 : Ref sig .tc := ⟨.hbm, 76, rfl⟩
abbrev main_call0_v8 : Ref sig .tc := ⟨.hbm, 77, rfl⟩
abbrev main_call0_c_3 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_v48 : Ref sig .tc := ⟨.hbm, 85, rfl⟩
abbrev main_c_6 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call1_v0 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_7 : Ref sig .tc := ⟨.hbm, 96, rfl⟩
abbrev main_v57 : Ref sig .tc := ⟨.hbm, 97, rfl⟩
abbrev main_v58 : Ref sig .tc := ⟨.hbm, 98, rfl⟩
abbrev main_c_8 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_9 : Ref sig .tc := ⟨.hbm, 105, rfl⟩
abbrev main_v64 : Ref sig .tc := ⟨.hbm, 106, rfl⟩
abbrev main_v65 : Ref sig .tc := ⟨.hbm, 107, rfl⟩
abbrev main_c_10 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_11 : Ref sig .tc := ⟨.hbm, 122, rfl⟩
abbrev main_v79 : Ref sig .tc := ⟨.hbm, 123, rfl⟩
abbrev main_v80 : Ref sig .tc := ⟨.hbm, 124, rfl⟩
abbrev main_c_12 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_13 : Ref sig .tc := ⟨.hbm, 131, rfl⟩
abbrev main_v86 : Ref sig .tc := ⟨.hbm, 132, rfl⟩
abbrev main_v87 : Ref sig .tc := ⟨.hbm, 133, rfl⟩
abbrev main_c_14 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c_15 : Ref sig .tc := ⟨.hbm, 148, rfl⟩
abbrev main_v101 : Ref sig .tc := ⟨.hbm, 149, rfl⟩
abbrev main_v102 : Ref sig .tc := ⟨.hbm, 150, rfl⟩
abbrev main_c_16 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_17 : Ref sig .tc := ⟨.hbm, 157, rfl⟩
abbrev main_v108 : Ref sig .tc := ⟨.hbm, 158, rfl⟩
abbrev main_v109 : Ref sig .tc := ⟨.hbm, 159, rfl⟩
abbrev main_c_18 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call2_v0 : Ref sig .tc := ⟨.hbm, 170, rfl⟩
abbrev main_call2_v1 : Ref sig .tc := ⟨.hbm, 171, rfl⟩
abbrev main_v119 : Ref sig .tc := ⟨.hbm, 172, rfl⟩
abbrev main_call3_v0 : Ref sig .tc := ⟨.hbm, 173, rfl⟩
abbrev main_call3_v1 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_call4_v0 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_call5_v0 : Ref sig .tc := ⟨.hbm, 183, rfl⟩
abbrev main_call5_v1 : Ref sig .tc := ⟨.hbm, 184, rfl⟩
abbrev main_v127 : Ref sig .tc := ⟨.hbm, 185, rfl⟩
abbrev main_call6_v0 : Ref sig .tc := ⟨.hbm, 186, rfl⟩
abbrev main_call6_v1 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_call7_v0 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩

abbrev nD : Nat := 1
abbrev τ : Topo := Topo.v7x

variable {F : FTy → Type} [FloatOps F]
-- ==== Proof.Nibble.lean ====
/- Reading one signed four-bit code out of the 32-bit word that packs eight of them. -/
module

public import Idealize.ShloMosaic.Lib.BitcastFour
public import Idealize.ShloMosaic.Lib.Pointwise

@[expose] public section

namespace Cert.Layer

open Idealize.ShloMosaic

/-- Code `p` of a byte: its four bits `4 p … 4 p + 3` as a number, less eight. -/
def code (b : BitVec 8) (p : Nat) : ℤ := ((b.toNat / 16 ^ p % 16 : ℕ) : ℤ) - 8

/-- Flipping the top bit of a nibble and extending its sign subtracts eight. -/
theorem code_eq_flip : ∀ (b : BitVec 8) (p : Fin 2),
    ((b.extractLsb' (4 * p.val) 4 ^^^ 8#4).signExtend 32).toInt = code b p.val := by
  decide +kernel

/-- The low nibble of a byte widened to 32 bits, less eight. -/
theorem code_low : ∀ b : BitVec 8, (IntOp.subi (IntOp.andi (b.setWidth 32) 15#32) 8#32).toInt = code b 0 := by
  decide +kernel

/-- The high nibble of a byte widened to 32 bits, less eight. -/
theorem code_high : ∀ b : BitVec 8,
    (IntOp.subi (IntOp.shrsi .host (b.setWidth 32) 4#32) 8#32).toInt = code b 1 := by
  decide +kernel

/-- Bit `i` of the mask that flips the top bit of every nibble. -/
theorem flip_bit : ∀ i : Fin 32, (2290649224#32).getLsbD i.val = decide (i.val % 4 = 3) := by decide

/-- Nibble `p` of a word whose top nibble bits are flipped, moved to the top of the word and back down with its
    sign, is the code `p % 2` of the byte `p / 2` that the word holds. -/
theorem word_code (w : BitVec 32) (b : BitVec 8) (p : Fin 8)
    (hb : ∀ q, q < 8 → w.getLsbD (8 * (p.val / 2) + q) = b.getLsbD q) :
    (IntOp.shrsi .vector (IntOp.shli .vector (IntOp.xori w 2290649224#32)
      (IntOp.subi 28#32 (IntOp.muli 4#32 (BitVec.ofNat 32 p.val)))) 28#32).toInt = code b (p.val % 2) := by
  have hsh : IntOp.subi 28#32 (IntOp.muli 4#32 (BitVec.ofNat 32 p.val)) = BitVec.ofNat 32 (28 - 4 * p.val) :=
    (by decide : ∀ p : Fin 8, IntOp.subi 28#32 (IntOp.muli 4#32 (BitVec.ofNat 32 p.val))
      = BitVec.ofNat 32 (28 - 4 * p.val)) p
  have hn : (BitVec.ofNat 32 (28 - 4 * p.val)).toNat = 28 - 4 * p.val := by
    rw [BitVec.toNat_ofNat]; omega
  rw [hsh, ← code_eq_flip b ⟨p.val % 2, by omega⟩]
  congr 1
  have hl : IntOp.shli .vector (IntOp.xori w 2290649224#32) (BitVec.ofNat 32 (28 - 4 * p.val))
      = (w ^^^ 2290649224#32) <<< (28 - 4 * p.val) := by
    unfold IntOp.shli IntOp.xori
    rw [if_pos (by rw [hn]; omega), BitVec.shiftLeft_eq', hn]
  have hr : ∀ x : BitVec 32, IntOp.shrsi .vector x 28#32 = x.sshiftRight 28 := fun x => by
    unfold IntOp.shrsi
    rw [if_pos (by decide)]; rfl
  rw [hl, hr]
  apply BitVec.eq_of_getLsbD_eq
  intro i hi
  have key : ∀ q, q < 4 → (w ^^^ 2290649224#32).getLsbD (4 * p.val + q)
      = (b.extractLsb' (4 * (p.val % 2)) 4 ^^^ 8#4).getLsbD q := by
    intro q hq
    have h1 : w.getLsbD (4 * p.val + q) = b.getLsbD (4 * (p.val % 2) + q) := by
      have := hb (4 * (p.val % 2) + q) (by omega)
      rw [← this]; congr 1; omega
    rw [BitVec.getLsbD_xor, BitVec.getLsbD_xor, BitVec.getLsbD_extractLsb', h1,
      flip_bit ⟨4 * p.val + q, by omega⟩]
    have h2 : ∀ q : Fin 4, (8#4).getLsbD q.val = decide (q.val = 3) := by decide
    rw [h2 ⟨q, hq⟩]
    simp only [hq, decide_true, Bool.true_and]
    congr 1
    exact decide_eq_decide.2 (by omega)
  rw [BitVec.getLsbD_sshiftRight, BitVec.getLsbD_signExtend]
  have hmsb : ((w ^^^ 2290649224#32) <<< (28 - 4 * p.val)).msb
      = (b.extractLsb' (4 * (p.val % 2)) 4 ^^^ 8#4).msb := by
    rw [BitVec.msb_eq_getLsbD_last, BitVec.msb_eq_getLsbD_last, BitVec.getLsbD_shiftLeft]
    have := key 3 (by omega)
    simp only [show (32 - 1 : ℕ) = 31 from rfl, show (4 - 1 : ℕ) = 3 from rfl]
    rw [show 31 - (28 - 4 * p.val) = 4 * p.val + 3 by omega, this]
    simp; omega
  by_cases h : i < 4
  · have e : ¬ (32 ≤ i) := by omega
    simp only [e, hi, h, decide_false, decide_true, Bool.not_false, Bool.true_and, if_true]
    rw [if_pos (by omega), BitVec.getLsbD_shiftLeft]
    rw [show 28 + i - (28 - 4 * p.val) = 4 * p.val + i by omega, key i h]
    simp; omega
  · have e : ¬ (32 ≤ i) := by omega
    simp only [e, hi, h, decide_false, decide_true, Bool.not_false, Bool.true_and, if_false]
    rw [if_neg (by omega), hmsb]

end Cert.Layer
-- ==== Proof.Tile.lean ====
/- One tile of 256 input columns, as the kernel multiplies it: sixteen unpacked rows of weights stacked, and the
   product added to the running sum.  Read at an index over the extended reals. -/
module

public import proofs.«01_k».proof.Proof.Nibble
public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.KernelIdeal.Layer

open Idealize.ShloMosaic Cert.Layer
open Cert.KernelIdeal Cert.KernelIdeal.Gen

variable {F : FTy → Type} [FloatOps F]

/-- Sixteen rows of weights of four heads: half a group's codes times the group's scales. -/
def rows4 (s : Vec F S1x512 .bf16) (w : Vec F S1x1x4x8x128 .i8) : FVec F S16x512 .bf16 := k0_pay7 s w

/-- Sixteen rows of weights of one head. -/
def rows1 (s : Vec F S1x128 .bf16) (w : Vec F S1x1x1x8x128 .i8) : FVec F S16x128 .bf16 := k0_pay301 s w

/-- The tile's product with four heads' weights, added to `acc`. -/
def tile4 (s : Fin 8 → Vec F S1x512 .bf16) (w : Fin 8 → Fin 2 → Vec F S1x1x4x8x128 .i8)
    (x : Vec F S192x256 .bf16) (acc : FVec F S192x512 .f32) : FVec F S192x512 .f32 :=
  k0_pay467 acc x (concatenate S256x512 0
    (List.ofFn fun n : Fin 16 => ⟨S16x512, rows4 (s ⟨n.val / 2, by omega⟩) (w ⟨n.val / 2, by omega⟩ ⟨n.val % 2, by omega⟩)⟩)
    concatenates_S16x512_S16x512_S16x512_S16x512_S16x512_S16x512_S16x512_S16x512_S16x512_S16x512_S16x512_S16x512_S16x512_S16x512_S16x512_S16x512_S256x512_d0)

/-- The tile's product with one head's weights, added to `acc`. -/
def tile1 (s : Fin 8 → Vec F S1x128 .bf16) (w : Fin 8 → Fin 2 → Vec F S1x1x1x8x128 .i8)
    (x : Vec F S192x256 .bf16) (acc : FVec F S192x128 .f32) : FVec F S192x128 .f32 :=
  k0_pay4 acc x (concatenate S256x128 0
    (List.ofFn fun n : Fin 16 => ⟨S16x128, rows1 (s ⟨n.val / 2, by omega⟩) (w ⟨n.val / 2, by omega⟩ ⟨n.val % 2, by omega⟩)⟩)
    concatenates_S16x128_S16x128_S16x128_S16x128_S16x128_S16x128_S16x128_S16x128_S16x128_S16x128_S16x128_S16x128_S16x128_S16x128_S16x128_S16x128_S256x128_d0)

/-- Nibble `p` of word row `a`, of the words that pack four heads' codes: byte row `4 a + p / 2`. -/
theorem nibble4 (w : Vec Ideal S32x128 .i8) (a p : Fin 8) (l : Fin 128) :
    (IntOp.shrsi .vector (IntOp.shli .vector (IntOp.xori
      (bitcast S8x128 32 w bitcasts_S32x128_w8_S8x128_w32 (ix2 a l)) 2290649224#32)
      (IntOp.subi 28#32 (IntOp.muli 4#32 (BitVec.ofNat 32 p.val)))) 28#32).toInt
      = code (w (ix2 ⟨4 * a.val + p.val / 2, by omega⟩ l)) (p.val % 2) :=
  word_code _ _ p fun q hq => by
    refine (bitcast_8_32_getLsbD_ix2 w _ a l _ (by omega) ⟨4 * a.val + p.val / 2, by omega⟩ (by simp; omega)).trans ?_
    congr 1; omega

/-- The same of one head's words. -/
theorem nibble1 (w : Vec Ideal S8x128 .i8) (a : Fin 2) (p : Fin 8) (l : Fin 128) :
    (IntOp.shrsi .vector (IntOp.shli .vector (IntOp.xori
      (bitcast S2x128 32 w bitcasts_S8x128_w8_S2x128_w32 (ix2 a l)) 2290649224#32)
      (IntOp.subi 28#32 (IntOp.muli 4#32 (BitVec.ofNat 32 p.val)))) 28#32).toInt
      = code (w (ix2 ⟨4 * a.val + p.val / 2, by omega⟩ l)) (p.val % 2) :=
  word_code _ _ p fun q hq => by
    refine (bitcast_8_32_getLsbD_ix2 w _ a l _ (by omega) ⟨4 * a.val + p.val / 2, by omega⟩ (by simp; omega)).trans ?_
    congr 1; omega

/-- The float of one nibble of one head's words, for weight row `r`. -/
theorem float1 (w : Vec Ideal S1x1x1x8x128 .i8) (r : Fin 16) (a : Fin 2) (ha : a.val = r.val / 8) (p : ℕ)
    (hp : p = r.val % 8) (l : Fin 128) (h : S1x1x1x8x128.ShapeCasts S8x128) :
    FloatOps.sitofp (F := Ideal) FTy.bf16 (IntOp.shrsi .vector (IntOp.shli .vector (IntOp.xori
      (bitcast S2x128 32 (shapeCast S8x128 w h) bitcasts_S8x128_w8_S2x128_w32 (ix2 a l)) 2290649224#32)
      (IntOp.subi 28#32 (IntOp.muli 4#32 (BitVec.ofNat 32 p)))) 28#32)
      = ((code (w (ix5 0 0 0 ⟨r.val / 2, by omega⟩ l)) (r.val % 2) : ℝ) : EReal) := by
  subst hp
  have e := nibble1 (shapeCast S8x128 w h) a ⟨r.val % 8, by omega⟩ l
  refine (congrArg (fun z : ℤ => ((z : ℝ) : EReal)) e).trans ?_
  have e2 : (r.val % 8) % 2 = r.val % 2 := by omega
  dsimp only
  rw [e2]
  congr 3
  pointwise []
  congr 2
  ext
  simp; omega

/-- The unpacked codes of four heads, as floats: a row and a lane hold a nibble of the word packed there. -/
theorem float4 (w : Vec Ideal S1x1x4x8x128 .i8) (i : Fin 4) (r : Fin 16) (a : Fin 8) (ha : a.val = 2 * i.val + r.val / 8) (p : ℕ)
    (hp : p = r.val % 8)
    (l l' : Fin 128) (hl : l'.val = l.val) (h : S1x1x4x8x128.ShapeCasts S32x128) :
    FloatOps.sitofp (F := Ideal) FTy.bf16 (IntOp.shrsi .vector (IntOp.shli .vector (IntOp.xori
      (bitcast S8x128 32 (shapeCast S32x128 w h) bitcasts_S32x128_w8_S8x128_w32 (ix2 a l')) 2290649224#32)
      (IntOp.subi 28#32 (IntOp.muli 4#32 (BitVec.ofNat 32 p)))) 28#32)
      = ((code (w (ix5 0 0 i ⟨r.val / 2, by omega⟩ l)) (r.val % 2) : ℝ) : EReal) := by
  subst hp
  obtain rfl : l' = l := Fin.ext hl
  have e := nibble4 (shapeCast S32x128 w h) a ⟨r.val % 8, by omega⟩ l'
  refine (congrArg (fun z : ℤ => ((z : ℝ) : EReal)) e).trans ?_
  have e2 : (r.val % 8) % 2 = r.val % 2 := by omega
  dsimp only
  rw [e2]
  congr 3
  pointwise []
  congr 1
  exact congrArg₂ (fun p q => ix5 0 0 p q l') (Fin.ext (by simp; omega)) (Fin.ext (by simp; omega))

/-- Sixteen rows of one head's weights: each is a code times its group's scale. -/
theorem rows1_apply (s : Vec Ideal S1x128 .bf16) (w : Vec Ideal S1x1x1x8x128 .i8) (r : Fin 16) (l : Fin 128) :
    rows1 s w (ix2 r l) = ((code (w (ix5 0 0 0 ⟨r.val / 2, by omega⟩ l)) (r.val % 2) : ℝ) : EReal) * s (ix2 0 l) := by
  unfold rows1
  pointwise [k0_pay301, k0_pay300]
  rw [float1 w r _ rfl _ rfl]

/-- Sixteen rows of four heads' weights, side by side: each is a code times its group's scale. -/
theorem rows4_apply (s : Vec Ideal S1x512 .bf16) (w : Vec Ideal S1x1x4x8x128 .i8) (r : Fin 16) (i : Fin 4) (l : Fin 128) :
    rows4 s w (ix2 r ⟨i.val * 128 + l.val, by omega⟩)
      = ((code (w (ix5 0 0 i ⟨r.val / 2, by omega⟩ l)) (r.val % 2) : ℝ) : EReal)
        * s (ix2 0 ⟨i.val * 128 + l.val, by omega⟩) := by
  unfold rows4
  pointwise [k0_pay7, k0_pay6]
  obtain ⟨i, hi⟩ := i
  have hl := l.isLt
  interval_cases i
  · rw [dif_pos (by simp), float4 w 0 r _ (by simp) _ rfl l _ (by simp)]; rfl
  · rw [dif_neg (by simp), dif_pos (by simp), float4 w 1 r _ (by simp; omega) _ (by omega) l _ (by simp)]
    exact congrArg (fun e => _ * s (ix2 0 e)) (Fin.ext (by simp))
  · rw [dif_neg (by simp; omega), dif_neg (by simp; omega), dif_pos (by simp; omega), float4 w 2 r _ (by simp; omega) _ (by omega) l _ (by simp; omega)]
    exact congrArg (fun e => _ * s (ix2 0 e)) (Fin.ext (by simp; omega))
  · rw [dif_neg (by simp; omega), dif_neg (by simp; omega), dif_neg (by simp; omega), float4 w 3 r _ (by simp; omega) _ (by omega) l _ (by simp; omega)]
    exact congrArg (fun e => _ * s (ix2 0 e)) (Fin.ext (by simp; omega))

/-- Sixteen stacked pieces of sixteen rows, read at an index. -/
theorem stack4 (f : Fin 16 → FVec Ideal S16x512 .bf16)
    (h : Shape.Concatenates ((List.ofFn fun n : Fin 16 => (⟨S16x512, f n⟩ : (s : Shape) × (s.Idx → EReal))).map (·.1)) S256x512 0)
    (k : Fin 256) (n : Fin 512) :
    concatenate S256x512 0 (List.ofFn fun n : Fin 16 => (⟨S16x512, f n⟩ : (s : Shape) × (s.Idx → EReal))) h (ix2 k n)
      = f ⟨k.val / 16, by omega⟩ (ix2 ⟨k.val % 16, by omega⟩ n) := by
  refine concatenate_ofFn_apply (s₁ := S16x512) (t := S256x512) 0 f h rfl 16 rfl (ix2 k n) ⟨k.val / 16, by omega⟩ rfl _ rfl fun b hb => ?_
  match b with
  | ⟨0, _⟩ => exact absurd rfl hb
  | ⟨1, _⟩ => rfl

/-- The same of one head's rows. -/
theorem stack1 (f : Fin 16 → FVec Ideal S16x128 .bf16)
    (h : Shape.Concatenates ((List.ofFn fun n : Fin 16 => (⟨S16x128, f n⟩ : (s : Shape) × (s.Idx → EReal))).map (·.1)) S256x128 0)
    (k : Fin 256) (n : Fin 128) :
    concatenate S256x128 0 (List.ofFn fun n : Fin 16 => (⟨S16x128, f n⟩ : (s : Shape) × (s.Idx → EReal))) h (ix2 k n)
      = f ⟨k.val / 16, by omega⟩ (ix2 ⟨k.val % 16, by omega⟩ n) := by
  refine concatenate_ofFn_apply (s₁ := S16x128) (t := S256x128) 0 f h rfl 16 rfl (ix2 k n) ⟨k.val / 16, by omega⟩ rfl _ rfl fun b hb => ?_
  match b with
  | ⟨0, _⟩ => exact absurd rfl hb
  | ⟨1, _⟩ => rfl

/-- A tile's product added to the running sum, entry by entry. -/
theorem addmul4_apply (x : Vec Ideal S192x256 .bf16) (acc : FVec Ideal S192x512 .f32) (W : FVec Ideal S256x512 .bf16)
    (m : Fin 192) (n : Fin 512) :
    k0_pay467 acc x W (ix2 m n) = acc (ix2 m n) + ∑ k : Fin 256, x (ix2 m k) * W (ix2 k n) := by
  pointwise [k0_pay467]

/-- The same with one head's weights. -/
theorem addmul1_apply (x : Vec Ideal S192x256 .bf16) (acc : FVec Ideal S192x128 .f32) (W : FVec Ideal S256x128 .bf16)
    (m : Fin 192) (n : Fin 128) :
    k0_pay4 acc x W (ix2 m n) = acc (ix2 m n) + ∑ k : Fin 256, x (ix2 m k) * W (ix2 k n) := by
  pointwise [k0_pay4]

/-- The tile's product, entry by entry: row `k` of the weights is row `k % 16` of half `k / 16 % 2` of group `k / 32`. -/
theorem tile4_apply (s : Fin 8 → Vec Ideal S1x512 .bf16) (w : Fin 8 → Fin 2 → Vec Ideal S1x1x4x8x128 .i8)
    (x : Vec Ideal S192x256 .bf16) (acc : FVec Ideal S192x512 .f32) (m : Fin 192) (n : Fin 512) :
    tile4 s w x acc (ix2 m n) = acc (ix2 m n) + ∑ k : Fin 256, x (ix2 m k) *
      rows4 (s ⟨k.val / 16 / 2, by omega⟩) (w ⟨k.val / 16 / 2, by omega⟩ ⟨k.val / 16 % 2, by omega⟩)
        (ix2 ⟨k.val % 16, by omega⟩ n) := by
  unfold tile4
  refine (addmul4_apply _ _ _ m n).trans (congrArg (acc (ix2 m n) + ·) (Finset.sum_congr rfl fun k _ => ?_))
  refine congrArg (x (ix2 m k) * ·) ((stack4 _ _ k n).trans ?_)
  rfl

/-- The same with one head's weights. -/
theorem tile1_apply (s : Fin 8 → Vec Ideal S1x128 .bf16) (w : Fin 8 → Fin 2 → Vec Ideal S1x1x1x8x128 .i8)
    (x : Vec Ideal S192x256 .bf16) (acc : FVec Ideal S192x128 .f32) (m : Fin 192) (n : Fin 128) :
    tile1 s w x acc (ix2 m n) = acc (ix2 m n) + ∑ k : Fin 256, x (ix2 m k) *
      rows1 (s ⟨k.val / 16 / 2, by omega⟩) (w ⟨k.val / 16 / 2, by omega⟩ ⟨k.val / 16 % 2, by omega⟩)
        (ix2 ⟨k.val % 16, by omega⟩ n) := by
  unfold tile1
  refine (addmul1_apply _ _ _ m n).trans (congrArg (acc (ix2 m n) + ·) (Finset.sum_congr rfl fun k _ => ?_))
  refine congrArg (x (ix2 m k) * ·) ((stack1 _ _ k n).trans ?_)
  rfl

end Cert.KernelIdeal.Layer

end
-- ==== Proof.Loads.lean ====
/- What the loop over the tiles of input columns loads on one trip: the rows of scales, the blocks of codes and the
   columns of the normalised rows, each read at an index of the array it is cut from. -/
module

public import proofs.«01_k».proof.Proof.Tile

@[expose] public section

set_option maxRecDepth 16384

noncomputable section

namespace Cert.KernelIdeal.Layer

open Idealize.ShloMosaic Cert.Layer
open Cert.KernelIdeal Cert.KernelIdeal.Gen

variable {F : FTy → Type} [FloatOps F]

/-- The group the trip's `j`-th loads name, as the kernel computes it. -/
def groupWord (k j : ℕ) : ℕ :=
  BitVec.toNat (Scalar.indexCast (Scalar.addi (Scalar.muli (Scf.iv 0#32 1#32 k) 8#32) (BitVec.ofNat 32 j)))

/-- The first column of the trip's tile, as the kernel computes it. -/
def columnWord (k : ℕ) : ℕ := BitVec.toNat (Scalar.indexCast (Scalar.muli (Scf.iv 0#32 1#32 k) 256#32))

/-- Trip `k`'s `j`-th group is `8 k + j`. -/
theorem groupWord_eq : ∀ (k : Fin 20) (j : Fin 8), groupWord k.val j.val = 8 * k.val + j.val := by decide +kernel

/-- Trip `k`'s tile starts at column `256 k`. -/
theorem columnWord_eq : ∀ k : Fin 20, columnWord k.val = 256 * k.val := by decide +kernel

/-- Every group is one of the 160. -/
theorem groupWord_lt (k : Fin 20) (j : Fin 8) : groupWord k.val j.val + 1 ≤ 160 := by
  rw [groupWord_eq]; omega

/-- Four heads' scales of one group, of the queries' scales. -/
def scaleQ (G : Vec F S160x2560 .bf16) (c : ℕ) (hc : c + 512 ≤ 2560) (k : Fin 20) (j : Fin 8) : Vec F S1x512 .bf16 :=
  fun y => G ((Rect.unit (s := S160x2560) ![groupWord k.val j.val, c] S1x512.size
    (Fin.forall_fin_two.mpr ⟨groupWord_lt k j, hc⟩)).idx y)

/-- Four heads' scales of one group, of the keys' or values' scales. -/
def scale4 (G : Vec F S160x640 .bf16) (k : Fin 20) (j : Fin 8) : Vec F S1x512 .bf16 :=
  fun y => G ((Rect.unit (s := S160x640) ![groupWord k.val j.val, 0] S1x512.size
    (Fin.forall_fin_two.mpr ⟨groupWord_lt k j, (by decide : 0 + 512 ≤ 640)⟩)).idx y)

/-- The fifth head's scales of one group, of the keys' or values' scales. -/
def scale1 (G : Vec F S160x640 .bf16) (k : Fin 20) (j : Fin 8) : Vec F S1x128 .bf16 :=
  fun y => G ((Rect.unit (s := S160x640) ![groupWord k.val j.val, 512] S1x128.size
    (Fin.forall_fin_two.mpr ⟨groupWord_lt k j, (by decide : 512 + 128 ≤ 640)⟩)).idx y)

/-- Four heads' codes of half a group, of the queries' codes. -/
def codesQ (G : Vec F S160x2x20x8x128 .i8) (h0 : ℕ) (hh : h0 + 4 ≤ 20) (k : Fin 20) (j : Fin 8) (h : Fin 2) :
    Vec F S1x1x4x8x128 .i8 :=
  fun y => G ((Rect.unit (s := S160x2x20x8x128) ![groupWord k.val j.val, h.val, h0, 0, 0] S1x1x4x8x128.size
    (fun a => match a with
      | ⟨0, _⟩ => groupWord_lt k j
      | ⟨1, _⟩ => h.isLt
      | ⟨2, _⟩ => hh
      | ⟨3, _⟩ => (by decide : 0 + 8 ≤ 8)
      | ⟨4, _⟩ => (by decide : 0 + 128 ≤ 128))).idx y)

/-- Four heads' codes of half a group, of the keys' or values' codes. -/
def codes4 (G : Vec F S160x2x5x8x128 .i8) (k : Fin 20) (j : Fin 8) (h : Fin 2) :
    Vec F S1x1x4x8x128 .i8 :=
  fun y => G ((Rect.unit (s := S160x2x5x8x128) ![groupWord k.val j.val, h.val, 0, 0, 0] S1x1x4x8x128.size
    (fun a => match a with
      | ⟨0, _⟩ => groupWord_lt k j
      | ⟨1, _⟩ => h.isLt
      | ⟨2, _⟩ => (by decide : 0 + 4 ≤ 5)
      | ⟨3, _⟩ => (by decide : 0 + 8 ≤ 8)
      | ⟨4, _⟩ => (by decide : 0 + 128 ≤ 128))).idx y)

/-- The fifth head's codes of half a group, of the keys' or values' codes. -/
def codes1 (G : Vec F S160x2x5x8x128 .i8) (k : Fin 20) (j : Fin 8) (h : Fin 2) :
    Vec F S1x1x1x8x128 .i8 :=
  fun y => G ((Rect.unit (s := S160x2x5x8x128) ![groupWord k.val j.val, h.val, 4, 0, 0] S1x1x1x8x128.size
    (fun a => match a with
      | ⟨0, _⟩ => groupWord_lt k j
      | ⟨1, _⟩ => h.isLt
      | ⟨2, _⟩ => (by decide : 4 + 1 ≤ 5)
      | ⟨3, _⟩ => (by decide : 0 + 8 ≤ 8)
      | ⟨4, _⟩ => (by decide : 0 + 128 ≤ 128))).idx y)

/-- The tile's columns of the normalised rows. -/
def columns (G : Vec F S192x5120 .bf16) (k : Fin 20) : Vec F S192x256 .bf16 :=
  fun y => G ((Rect.unit (s := S192x5120) ![0, columnWord k.val] S192x256.size
    (Fin.forall_fin_two.mpr ⟨(by decide : 0 + 192 ≤ 192), by
      show columnWord k.val + 256 ≤ 5120
      rw [columnWord_eq]; omega⟩)).idx y)

/-- `scaleQ` at an index. -/
theorem scaleQ_apply (G : Vec F S160x2560 .bf16) (c : ℕ) (hc : c + 512 ≤ 2560) (k : Fin 20) (j : Fin 8) (n : Fin 512) :
    scaleQ G c hc k j (ix2 0 n) = G (ix2 ⟨8 * k.val + j.val, by omega⟩ ⟨c + n.val, by omega⟩) := by
  have e := groupWord_eq k j
  exact congrArg G (by idx_ext)

/-- `scale4` at an index. -/
theorem scale4_apply (G : Vec F S160x640 .bf16) (k : Fin 20) (j : Fin 8) (n : Fin 512) :
    scale4 G k j (ix2 0 n) = G (ix2 ⟨8 * k.val + j.val, by omega⟩ ⟨n.val, by omega⟩) := by
  have e := groupWord_eq k j
  exact congrArg G (by idx_ext)

/-- `scale1` at an index. -/
theorem scale1_apply (G : Vec F S160x640 .bf16) (k : Fin 20) (j : Fin 8) (n : Fin 128) :
    scale1 G k j (ix2 0 n) = G (ix2 ⟨8 * k.val + j.val, by omega⟩ ⟨512 + n.val, by omega⟩) := by
  have e := groupWord_eq k j
  exact congrArg G (by idx_ext)

/-- `codesQ` at an index. -/
theorem codesQ_apply (G : Vec F S160x2x20x8x128 .i8) (h0 : ℕ) (hh : h0 + 4 ≤ 20) (k : Fin 20) (j : Fin 8) (h : Fin 2)
    (i : Fin 4) (r : Fin 8) (l : Fin 128) :
    codesQ (F := F) G h0 hh k j h (ix5 0 0 i r l) = G (ix5 ⟨8 * k.val + j.val, by omega⟩ h ⟨h0 + i.val, by omega⟩ r l) := by
  have e := groupWord_eq k j
  exact congrArg G (by idx_ext)

/-- `codes4` at an index. -/
theorem codes4_apply (G : Vec F S160x2x5x8x128 .i8) (k : Fin 20) (j : Fin 8) (h : Fin 2)
    (i : Fin 4) (r : Fin 8) (l : Fin 128) :
    codes4 (F := F) G k j h (ix5 0 0 i r l) = G (ix5 ⟨8 * k.val + j.val, by omega⟩ h ⟨i.val, by omega⟩ r l) := by
  have e := groupWord_eq k j
  exact congrArg G (by idx_ext)

/-- `codes1` at an index. -/
theorem codes1_apply (G : Vec F S160x2x5x8x128 .i8) (k : Fin 20) (j : Fin 8) (h : Fin 2) (r : Fin 8) (l : Fin 128) :
    codes1 (F := F) G k j h (ix5 0 0 0 r l) = G (ix5 ⟨8 * k.val + j.val, by omega⟩ h 4 r l) := by
  have e := groupWord_eq k j
  exact congrArg G (by idx_ext)

/-- `columns` at an index. -/
theorem columns_apply (G : Vec F S192x5120 .bf16) (k : Fin 20) (i : Fin 192) (n : Fin 256) :
    columns G k (ix2 i n) = G (ix2 i ⟨256 * k.val + n.val, by omega⟩) := by
  have e := columnWord_eq k
  exact congrArg G (by idx_ext)

end Cert.KernelIdeal.Layer

end
-- ==== Proof.Spec.lean ====
/- The layer's results written out over the extended reals: what both the kernel and the reference are shown to
   compute. -/
module

public import proofs.«01_k».proof.Proof.Nibble
public import Idealize.ShloMosaic.Lib.Pointwise

@[expose] public section

set_option maxRecDepth 16384

noncomputable section

namespace Cert.Layer

open Idealize.ShloMosaic

/-- Element `(i, k)` of the normalised rows: the row over its root mean square, times the norm's weight. -/
def xnorm (X : FVec Ideal ⟨3, ![192, 1, 5120]⟩ .bf16) (W : FVec Ideal ⟨1, ![5120]⟩ .bf16)
    (i : Fin 192) (k : Fin 5120) : EReal :=
  X (ix3 i 0 k)
    * Ideal.rsqrt (Ideal.div (∑ k : Fin 5120, X (ix3 i 0 k) * X (ix3 i 0 k)) (Ideal.ofBits .f32 0x45A00000#32)
        + Ideal.ofBits .f32 0x358637BD#32)
    * W (ix1 k)

/-- The weight of output row `r` that nibble `p` of packed byte `j` holds: the code times its group's scale. -/
def weight {n : ℕ} (P : IVec ⟨3, ![n, 160, 16]⟩ 8) (S : FVec Ideal ⟨2, ![n, 160]⟩ .bf16)
    (r : Fin n) (j : Fin 2560) (p : ℕ) : EReal :=
  ((code (P (ix3 r ⟨j.val / 16, by omega⟩ ⟨j.val % 16, by omega⟩)) p : ℝ) : EReal)
    * S (ix2 r ⟨j.val / 16, by omega⟩)

/-- The input column that nibble `p` of packed byte `j` multiplies: a group's low nibbles are its first sixteen
    columns, its high nibbles the other sixteen. -/
def column (j : Fin 2560) (p : Fin 2) : Fin 5120 :=
  ⟨j.val / 16 * 32 + p.val * 16 + j.val % 16, by omega⟩

/-- One element of a projection: the low nibbles' products plus the high nibbles'. -/
def proj {n : ℕ} (x : Fin 5120 → EReal) (P : IVec ⟨3, ![n, 160, 16]⟩ 8)
    (S : FVec Ideal ⟨2, ![n, 160]⟩ .bf16) (r : Fin n) : EReal :=
  (∑ j : Fin 2560, x (column j 0) * weight P S r j 0) + ∑ j : Fin 2560, x (column j 1) * weight P S r j 1

/-- The rotary embedding's angle at position `i` and lane `l`. -/
def angle (pos : IVec ⟨2, ![192, 1]⟩ 32) (i : Fin 192) (l : Fin 128) : EReal :=
  (((pos (ix2 i 0)).toInt : ℝ) : EReal)
    * Ideal.pow (Ideal.ofBits .f32 0x461C4000#32)
        (Ideal.div (-(((l.val / 2 * 2 : ℕ) : ℝ) : EReal)) (Ideal.ofBits .f32 0x43000000#32))

/-- The lane a lane is paired with. -/
def mate (l : Fin 128) : Fin 128 :=
  if l.val % 2 = 0 then ⟨(l.val + 1) % 128, by omega⟩ else ⟨(l.val + 127) % 128, by omega⟩

/-- The sine the rotary embedding multiplies lane `l`'s mate with. -/
def signedSin (pos : IVec ⟨2, ![192, 1]⟩ 32) (i : Fin 192) (l : Fin 128) : EReal :=
  if l.val % 2 = 0 then -Ideal.sin (angle pos i l) else Ideal.sin (angle pos i l)

/-- The rotary embedding of one head of one row. -/
def rotate (pos : IVec ⟨2, ![192, 1]⟩ 32) (i : Fin 192) (t : Fin 128 → EReal) (l : Fin 128) : EReal :=
  t l * Ideal.cos (angle pos i l) + t (mate l) * signedSin pos i l

/-- The bit of a select on the parity of `l`. -/
theorem select_even {α : Type} (l : Fin 128) (w : BitVec 1) (hw : w = if l.val % 2 = 0 then 1#1 else 0#1) (a b : α) :
    Scalar.select w a b = if l.val % 2 = 0 then a else b := by
  subst hw
  by_cases h : l.val % 2 = 0
  · rw [if_pos h, if_pos h]; rfl
  · rw [if_neg h, if_neg h]; rfl

end Cert.Layer

end
-- ==== Proof.Sums.lean ====
/- The running sum over the twenty tiles of input columns is the projection: the tiles' products, column by column,
   are the low nibbles' products and the high nibbles' products in another order. -/
module

public import proofs.«01_k».proof.Proof.Loads
public import proofs.«01_k».proof.Proof.Spec

@[expose] public section

set_option maxRecDepth 16384

noncomputable section

namespace Cert.KernelIdeal.Layer

open Idealize.ShloMosaic Cert.Layer
open Cert.KernelIdeal Cert.KernelIdeal.Gen

/-- A quantity that starts at zero and grows by `T k` on trip `k` ends at the sum of the `T k`. -/
theorem sum_trips {N : ℕ} (f : ℕ → EReal) (T : Fin N → EReal) (h0 : f 0 = 0)
    (hs : ∀ k : Fin N, f (k.val + 1) = f k.val + T k) : f N = ∑ k, T k := by
  induction N with
  | zero => simpa using h0
  | succ n ih =>
    rw [Fin.sum_univ_castSucc, ← ih (fun k => T k.castSucc) (fun k => hs k.castSucc)]
    exact hs (Fin.last n)

/-- The 5120 input columns taken 256 at a time are the 2560 bytes' low nibbles and their high nibbles. -/
theorem sum_columns (f : ℕ → EReal) :
    ∑ k : Fin 20, ∑ j : Fin 256, f (256 * k.val + j.val)
      = (∑ j : Fin 2560, f (2 * j.val)) + ∑ j : Fin 2560, f (2 * j.val + 1) := by
  have h1 := Fin.sum_univ_tiles 20 256 (N := 5120) rfl fun k => f k.val
  have h2 := Fin.sum_univ_tiles 2560 2 (N := 5120) rfl fun k => f k.val
  rw [h1] at h2
  simp only [Fin.sum_univ_two, Finset.sum_add_distrib] at h2
  simp only [Nat.mul_comm 256, Nat.mul_comm 2]
  exact h2

/-- The kernel's order of the input columns: columns `2 b` and `2 b + 1` are the ones byte `b`'s nibbles multiply. -/
def source (k : Fin 5120) : Fin 5120 := ⟨k.val / 32 * 32 + k.val % 2 * 16 + k.val % 32 / 2, by omega⟩

/-- The columns' products, in the kernel's order, sum to the projection. -/
theorem proj_eq {n : ℕ} (x : Fin 5120 → EReal) (P : IVec ⟨3, ![n, 160, 16]⟩ 8) (S : FVec Ideal ⟨2, ![n, 160]⟩ .bf16)
    (r : Fin n) (T : Fin 20 → Fin 256 → EReal)
    (hT : ∀ (k : Fin 20) (j : Fin 256), T k j = x (source ⟨256 * k.val + j.val, by omega⟩)
      * weight P S r ⟨(256 * k.val + j.val) / 2, by omega⟩ ((256 * k.val + j.val) % 2)) :
    ∑ k, ∑ j, T k j = proj x P S r := by
  let f : ℕ → EReal := fun i => if h : i < 5120 then x (source ⟨i, h⟩) * weight P S r ⟨i / 2, by omega⟩ (i % 2) else 0
  have e : ∀ (k : Fin 20) (j : Fin 256), T k j = f (256 * k.val + j.val) := fun k j => by
    have h : 256 * k.val + j.val < 5120 := by omega
    rw [hT k j]
    show _ = if h : 256 * k.val + j.val < 5120 then _ else _
    rw [dif_pos h]
  simp only [e]
  rw [sum_columns]
  unfold proj
  refine congrArg₂ (· + ·) (Finset.sum_congr rfl fun j _ => ?_) (Finset.sum_congr rfl fun j _ => ?_)
  · have h : 2 * j.val < 5120 := by omega
    have e1 : source ⟨2 * j.val, h⟩ = column j 0 := Fin.ext (by simp [source, column]; omega)
    have e2 : (⟨2 * j.val / 2, by omega⟩ : Fin 2560) = j := Fin.ext (by simp)
    have e3 : 2 * j.val % 2 = 0 := by omega
    refine (dif_pos (c := 2 * j.val < 5120) h).trans ?_
    rw [e1, e2, e3]
  · have h : 2 * j.val + 1 < 5120 := by omega
    have e1 : source ⟨2 * j.val + 1, h⟩ = column j 1 := Fin.ext (by simp [source, column]; omega)
    have e2 : (⟨(2 * j.val + 1) / 2, by omega⟩ : Fin 2560) = j := Fin.ext (by simp; omega)
    have e3 : (2 * j.val + 1) % 2 = 1 := by omega
    refine (dif_pos (c := 2 * j.val + 1 < 5120) h).trans ?_
    rw [e1, e2, e3]

/-- Twenty trips over four heads' tiles: the running sum ends at the projection, where the loads hold the codes and the
    scales of output rows `128 h + l` and the columns of `x` in the kernel's order. -/
theorem trips4 {n : ℕ} (f : ℕ → FVec Ideal S192x512 .f32) (s : Fin 20 → Fin 8 → Vec Ideal S1x512 .bf16)
    (w : Fin 20 → Fin 8 → Fin 2 → Vec Ideal S1x1x4x8x128 .i8) (xs : Fin 20 → Vec Ideal S192x256 .bf16)
    (h0 : ∀ y, f 0 y = 0) (hs : ∀ k : Fin 20, f (k.val + 1) = tile4 (s k) (w k) (xs k) (f k.val))
    (x : Fin 192 → Fin 5120 → EReal) (P : IVec ⟨3, ![n, 160, 16]⟩ 8) (S : FVec Ideal ⟨2, ![n, 160]⟩ .bf16)
    (row : Fin 4 → Fin 128 → Fin n)
    (hx : ∀ k m j, xs k (ix2 m j) = x m (source ⟨256 * k.val + j.val, by omega⟩))
    (hS : ∀ (k : Fin 20) (j : Fin 8) (i : Fin 4) (l : Fin 128),
      s k j (ix2 0 ⟨i.val * 128 + l.val, by omega⟩) = S (ix2 (row i l) ⟨8 * k.val + j.val, by omega⟩))
    (hP : ∀ (k : Fin 20) (j : Fin 8) (h : Fin 2) (i : Fin 4) (r : Fin 8) (l : Fin 128),
      w k j h (ix5 0 0 i r l) = P (ix3 (row i l) ⟨8 * k.val + j.val, by omega⟩ ⟨8 * h.val + r.val, by omega⟩))
    (m : Fin 192) (i : Fin 4) (l : Fin 128) :
    f 20 (ix2 m ⟨i.val * 128 + l.val, by omega⟩) = proj (x m) P S (row i l) := by
  let T : Fin 20 → Fin 256 → EReal := fun k j => xs k (ix2 m j) *
    rows4 (s k ⟨j.val / 16 / 2, by omega⟩) (w k ⟨j.val / 16 / 2, by omega⟩ ⟨j.val / 16 % 2, by omega⟩)
      (ix2 ⟨j.val % 16, by omega⟩ ⟨i.val * 128 + l.val, by omega⟩)
  have e : f 20 (ix2 m ⟨i.val * 128 + l.val, by omega⟩) = ∑ k, ∑ j, T k j :=
    sum_trips (N := 20) (fun k => f k (ix2 m ⟨i.val * 128 + l.val, by omega⟩)) (fun k => ∑ j, T k j) (h0 _) fun k =>
      (congrFun (hs k) _).trans (tile4_apply _ _ _ _ _ _)
  refine e.trans (proj_eq (x m) P S (row i l) T fun k j => ?_)
  dsimp only [T]
  rw [hx, rows4_apply, hS, hP]
  unfold weight
  have a : (256 * k.val + j.val) / 2 / 16 = 8 * k.val + j.val / 16 / 2 := by omega
  have b : (256 * k.val + j.val) / 2 % 16 = 8 * (j.val / 16 % 2) + j.val % 16 / 2 := by omega
  have c : (256 * k.val + j.val) % 2 = j.val % 16 % 2 := by omega
  simp only [a, b, c]

/-- The same over one head's tiles. -/
theorem trips1 {n : ℕ} (f : ℕ → FVec Ideal S192x128 .f32) (s : Fin 20 → Fin 8 → Vec Ideal S1x128 .bf16)
    (w : Fin 20 → Fin 8 → Fin 2 → Vec Ideal S1x1x1x8x128 .i8) (xs : Fin 20 → Vec Ideal S192x256 .bf16)
    (h0 : ∀ y, f 0 y = 0) (hs : ∀ k : Fin 20, f (k.val + 1) = tile1 (s k) (w k) (xs k) (f k.val))
    (x : Fin 192 → Fin 5120 → EReal) (P : IVec ⟨3, ![n, 160, 16]⟩ 8) (S : FVec Ideal ⟨2, ![n, 160]⟩ .bf16)
    (row : Fin 128 → Fin n)
    (hx : ∀ k m j, xs k (ix2 m j) = x m (source ⟨256 * k.val + j.val, by omega⟩))
    (hS : ∀ (k : Fin 20) (j : Fin 8) (l : Fin 128),
      s k j (ix2 0 l) = S (ix2 (row l) ⟨8 * k.val + j.val, by omega⟩))
    (hP : ∀ (k : Fin 20) (j : Fin 8) (h : Fin 2) (r : Fin 8) (l : Fin 128),
      w k j h (ix5 0 0 0 r l) = P (ix3 (row l) ⟨8 * k.val + j.val, by omega⟩ ⟨8 * h.val + r.val, by omega⟩))
    (m : Fin 192) (l : Fin 128) :
    f 20 (ix2 m l) = proj (x m) P S (row l) := by
  let T : Fin 20 → Fin 256 → EReal := fun k j => xs k (ix2 m j) *
    rows1 (s k ⟨j.val / 16 / 2, by omega⟩) (w k ⟨j.val / 16 / 2, by omega⟩ ⟨j.val / 16 % 2, by omega⟩)
      (ix2 ⟨j.val % 16, by omega⟩ l)
  have e : f 20 (ix2 m l) = ∑ k, ∑ j, T k j :=
    sum_trips (N := 20) (fun k => f k (ix2 m l)) (fun k => ∑ j, T k j) (h0 _) fun k =>
      (congrFun (hs k) _).trans (tile1_apply _ _ _ _ _ _)
  refine e.trans (proj_eq (x m) P S (row l) T fun k j => ?_)
  dsimp only [T]
  rw [hx, rows1_apply, hS, hP]
  unfold weight
  have a : (256 * k.val + j.val) / 2 / 16 = 8 * k.val + j.val / 16 / 2 := by omega
  have b : (256 * k.val + j.val) / 2 % 16 = 8 * (j.val / 16 % 2) + j.val % 16 / 2 := by omega
  have c : (256 * k.val + j.val) % 2 = j.val % 16 % 2 := by omega
  simp only [a, b, c]

end Cert.KernelIdeal.Layer

end
-- ==== Proof.Norm.lean ====
/- The kernel's normalised rows, tile by tile, and its tables of the rotary embedding, read at an index. -/
module

public import proofs.«01_k».proof.Proof.Sums

@[expose] public section

set_option maxRecDepth 16384

noncomputable section

namespace Cert.KernelIdeal.Layer

open Idealize.ShloMosaic Cert.Layer
open Cert.KernelIdeal Cert.KernelIdeal.Gen

variable {F : FTy → Type} [FloatOps F]

/-- The one-hot matrix that reorders a tile's columns. -/
def order : FVec F S256x256 .bf16 :=
  k0_pay426 (k0_pay425 (iota Kind.tc S256x256 32 [0] iota_S256x256_d0_w32)
    (iota Kind.tc S256x256 32 [1] iota_S256x256_d1_w32) k0_pay423 k0_pay424 16#32)

/-- The reciprocal root mean square of each row, from the row's forty slices of 128 columns. -/
def rms (x : Fin 40 → Vec F S192x128 .bf16) : FVec F S192x1 .f32 :=
  k0_pay433 (k0_pay431 (k0_pay430 (k0_pay428 (k0_pay427 (x 0) (x 1) (x 2) (x 3) (x 4) (x 5) (x 6) (x 7))
    (x 8) (x 9) (x 10) (x 11) (x 12) (x 13) (x 14) (x 15)) (k0_pay429 (x 16))
    (x 17) (x 18) (x 19) (x 20) (x 21) (x 22) (x 23) (x 24))
    (x 25) (x 26) (x 27) (x 28) (x 29) (x 30) (x 31) (x 32)) (k0_pay432 (x 33))
    (x 34) (x 35) (x 36) (x 37) (x 38) (x 39)

/-- A tile of the normalised rows, its columns reordered. -/
def normTile (P : FVec F S256x256 .bf16) (r : FVec F S192x1 .f32) (a b : FVec F S1x128 .f32) (x : Vec F S192x256 .bf16) :
    FVec F S192x256 .bf16 :=
  k0_pay436 P r (concatenate S1x256 1 [⟨S1x128, a⟩, ⟨S1x128, b⟩] concatenates_S1x128_S1x128_S1x256_d1) (k0_pay435 x)

/-- A comparison's bit as a number. -/
theorem hot_word (i : Fin 256) (w : BitVec 32) (n : ℕ) (hn : n < 256) (hw : w = BitVec.ofNat 32 n) :
    FloatOps.sitofp (F := Ideal) FTy.f32 (BitVec.setWidth 32 (IntOp.cmpi .eq (BitVec.ofNat 32 i.val) w))
      = if i.val = n then 1 else 0 := by
  subst hw
  have e : (BitVec.ofNat 32 i.val = BitVec.ofNat 32 n) ↔ i.val = n := by
    rw [← BitVec.toNat_inj, BitVec.toNat_ofNat, BitVec.toNat_ofNat, Nat.mod_eq_of_lt (by omega),
      Nat.mod_eq_of_lt (by omega)]
  by_cases h : i.val = n
  · rw [if_pos h, h]
    simp [IntOp.cmpi, FloatOps.sitofp]
  · rw [if_neg h]
    have : IntOp.cmpi .eq (BitVec.ofNat 32 i.val) (BitVec.ofNat 32 n) = 0#1 := by
      show BitVec.ofBool (BitVec.ofNat 32 i.val == BitVec.ofNat 32 n) = 0#1
      rw [beq_false_of_ne (mt e.mp h)]
      rfl
    rw [this]
    simp [FloatOps.sitofp]

/-- `order` at an index: column `j` takes row `source j`. -/
theorem order_apply (i j : Fin 256) : order (F := Ideal) (ix2 i j)
    = if i.val = j.val / 32 * 32 + j.val % 2 * 16 + j.val % 32 / 2 then 1 else 0 := by
  unfold order
  pointwise [k0_pay426, k0_pay425, k0_pay423, k0_pay424]
  refine hot_word i _ _ (by omega) ?_
  clear i
  revert j
  decide +kernel

/-- A row of a one-hot column picks one element. -/
theorem sum_hot (f : Fin 128 → EReal) (c s : ℕ) :
    ∑ x : Fin 128, f x * (if c + x.val = s then 1 else 0)
      = if h : c ≤ s ∧ s < c + 128 then f ⟨s - c, by omega⟩ else 0 := by
  by_cases h : c ≤ s ∧ s < c + 128
  · rw [dif_pos h, Finset.sum_eq_single ⟨s - c, by omega⟩]
    · rw [if_pos (by show c + (s - c) = s; omega), mul_one]
    · intro b _ hb
      rw [if_neg (fun e => hb (Fin.ext (by show b.val = s - c; omega))), mul_zero]
    · exact fun e => absurd (Finset.mem_univ _) e
  · rw [dif_neg h]
    exact Finset.sum_eq_zero fun b _ => by rw [if_neg (by omega), mul_zero]

/-- `normTile` at an index. -/
theorem normTile_apply (r : FVec Ideal S192x1 .f32) (a b : FVec Ideal S1x128 .f32)
    (x : Vec Ideal S192x256 .bf16) (w : Fin 256 → EReal)
    (ha : ∀ l : Fin 128, a (ix2 0 l) = w ⟨l.val, by omega⟩)
    (hb : ∀ l : Fin 128, b (ix2 0 l) = w ⟨128 + l.val, by omega⟩)
    (i : Fin 192) (j s : Fin 256) (hs : s.val = j.val / 32 * 32 + j.val % 2 * 16 + j.val % 32 / 2) :
    normTile order r a b x (ix2 i j) = x (ix2 i s) * r (ix2 i 0) * w s := by
  unfold normTile
  pointwise [k0_pay436, k0_pay435]
  simp only [order_apply, ha, hb]
  rw [← hs]
  have h0 := sum_hot (fun l => x (ix2 i ⟨l.val, by omega⟩) * r (ix2 i 0) * w ⟨l.val, by omega⟩) 0 s.val
  have h1 := sum_hot (fun l => x (ix2 i ⟨128 + l.val, by omega⟩) * r (ix2 i 0) * w ⟨128 + l.val, by omega⟩) 128 s.val
  simp only [Nat.zero_add] at h0
  refine (congrArg₂ (· + ·) h0 h1).trans ?_
  by_cases h : s.val < 128
  · rw [dif_pos ⟨Nat.zero_le _, h⟩, dif_neg (by omega), add_zero]
    rfl
  · rw [dif_neg (by omega), dif_pos ⟨by omega, by omega⟩, zero_add]
    have e : (⟨128 + (s.val - 128), by omega⟩ : Fin 256) = s := Fin.ext (by show 128 + (s.val - 128) = s.val; omega)
    simp only [e]

/-- `rms` at a row. -/
theorem rms_apply (x : Fin 40 → Vec Ideal S192x128 .bf16) (X : Fin 5120 → EReal) (i : Fin 192)
    (hx : ∀ (t : Fin 40) (l : Fin 128), x t (ix2 i l) = X ⟨128 * t.val + l.val, by omega⟩) :
    rms x (ix2 i 0) = Ideal.rsqrt (Ideal.div (∑ k, X k * X k) (Ideal.ofBits .f32 0x45A00000#32)
        + Ideal.ofBits .f32 0x358637BD#32) := by
  have e : ∑ l : Fin 128, ∑ t : Fin 40, x t (ix2 i l) * x t (ix2 i l) = ∑ k, X k * X k := by
    rw [Finset.sum_comm, Fin.sum_univ_tiles 40 128 (N := 5120) rfl]
    refine Finset.sum_congr rfl fun t _ => Finset.sum_congr rfl fun l _ => ?_
    rw [hx]
    have e : (⟨128 * t.val + l.val, by omega⟩ : Fin 5120) = ⟨t.val * 128 + l.val, by omega⟩ :=
      Fin.ext (by show 128 * t.val + l.val = t.val * 128 + l.val; omega)
    rw [e]
  unfold rms
  pointwise [k0_pay433, k0_pay432, k0_pay431, k0_pay430, k0_pay429, k0_pay428, k0_pay427]
  rw [← e]
  refine congrArg (fun s => Ideal.rsqrt (Ideal.div s _ + _)) (Finset.sum_congr rfl fun l _ => ?_)
  simp only [Fin.sum_univ_castSucc, Finset.univ_eq_empty, Finset.sum_empty, zero_add]
  rfl

/-- The word for twice half of `l`. -/
theorem pair_word (l : Fin 128) (w : BitVec 32) (hw : w = BitVec.ofNat 32 (l.val / 2 * 2)) :
    FloatOps.sitofp (F := Ideal) FTy.f32 w = (((l.val / 2 * 2 : ℕ) : ℝ) : EReal) := by
  subst hw
  have e : (BitVec.ofNat 32 (l.val / 2 * 2)).toInt = ((l.val / 2 * 2 : ℕ) : ℤ) := by
    revert l; decide +kernel
  simp only [FloatOps.sitofp, e]
  norm_cast

/-- The angles. -/
theorem angle_apply (pos : Vec Ideal S1x192 .i32) (P : IVec ⟨2, ![192, 1]⟩ 32) (h : ∀ i, pos (ix2 0 i) = P (ix2 i 0))
    (i : Fin 192) (l : Fin 128) :
    k0_pay418 (F := Ideal) k0_pay417 pos (ix2 i l) = angle P i l := by
  pointwise [k0_pay418, k0_pay417]
  unfold angle
  refine congrArg₂ (· * ·) (congrArg (FloatOps.sitofp (F := Ideal) FTy.f32) (h i))
    (congrArg (fun s => Ideal.pow _ (Ideal.div s _)) ?_)
  rw [zero_sub]
  exact congrArg Neg.neg (pair_word l _ (by revert l; decide +kernel))

/-- The table of cosines. -/
theorem cos_apply (pos : Vec Ideal S1x192 .i32) (P : IVec ⟨2, ![192, 1]⟩ 32) (h : ∀ i, pos (ix2 0 i) = P (ix2 i 0))
    (i : Fin 192) (l : Fin 128) :
    k0_pay419 (F := Ideal) k0_pay417 pos (ix2 i l) = Ideal.cos (angle P i l) := by
  pointwise [k0_pay419]
  rw [angle_apply pos P h]

/-- The table of signed sines. -/
theorem sin_apply (pos : Vec Ideal S1x192 .i32) (P : IVec ⟨2, ![192, 1]⟩ 32) (h : ∀ i, pos (ix2 0 i) = P (ix2 i 0))
    (i : Fin 192) (l : Fin 128) :
    k0_pay420 (F := Ideal) (iota .tc S1x128 32 [1] iota_S1x128_d1_w32) k0_pay417 pos (ix2 i l) = signedSin P i l := by
  pointwise [k0_pay420]
  rw [angle_apply pos P h, zero_sub]
  exact select_even l _ (by revert l; decide +kernel) _ _

/-- The mask of the even lanes. -/
def even : IVec S192x128 1 := cmpi .eq (select k0_pay471 k0_pay472 k0_pay470) (broadcast S192x128 0#32)

/-- One head turned by the rotary embedding, in the kernel's order of operations. -/
def turn (t C S : FVec F S192x128 .f32) : FVec F S1x192x128 .bf16 :=
  shapeCast S1x192x128 (truncf .bf16 (addf (mulf t C) (mulf (select even
    (dynamicRotate 1 127#32 none t rotates_S192x128_d1) (dynamicRotate 1 1#32 none t rotates_S192x128_d1)) S))
    bitsLt_bf16_f32) shapeCasts_S192x128_S1x192x128

/-- `turn` at an index. -/
theorem turn_apply (t C S : FVec Ideal S192x128 .f32) (P : IVec ⟨2, ![192, 1]⟩ 32)
    (hC : ∀ i l, C (ix2 i l) = Ideal.cos (angle P i l)) (hS : ∀ i l, S (ix2 i l) = signedSin P i l)
    (i : Fin 192) (l : Fin 128) :
    turn t C S (ix3 0 i l) = rotate P i (fun l => t (ix2 i l)) l := by
  unfold turn even
  pointwise [k0_pay470, k0_pay471, k0_pay472]
  rw [hC, hS, select_even l _ (by revert l; decide +kernel)]
  unfold rotate mate
  split
  · refine congrArg (fun n => _ + t (ix2 i n) * _) (Fin.ext ?_)
    show (l.val + 128 - 127) % 128 = (l.val + 1) % 128
    omega
  · refine congrArg (fun n => _ + t (ix2 i n) * _) (Fin.ext ?_)
    show (l.val + 128 - 1) % 128 = (l.val + 127) % 128
    omega

end Cert.KernelIdeal.Layer

end
-- ==== Proof.Rows.lean ====
/- The scratch of normalised rows after its twenty stores, read at an index. -/
module

public import proofs.«01_k».proof.Proof.Norm

@[expose] public section

set_option maxRecDepth 16384

noncomputable section

namespace Cert.KernelIdeal.Layer

open Idealize.ShloMosaic Cert.Layer
open Cert.KernelIdeal Cert.KernelIdeal.Gen

variable {F : FTy → Type} [FloatOps F]

/-- The norm's weights as the kernel widens them. -/
def widened (w : Vec F S40x128 .bf16) : FVec F S40x128 .f32 := k0_pay422 (k0_pay421 w)

/-- Columns `o … o + 127`. -/
def cut128 (x : Vec F S192x5120 .bf16) (o : ℕ) (ho : o + 128 ≤ 5120) : Vec F S192x128 .bf16 :=
  fun y => x ((Rect.unit (s := S192x5120) ![0, o] S192x128.size
    (Fin.forall_fin_two.mpr ⟨(by decide : 0 + 192 ≤ 192), ho⟩)).idx y)

/-- The rectangle of columns `o … o + 255`. -/
def rect256 (o : ℕ) (ho : o + 256 ≤ 5120) : Rect S192x5120 :=
  Rect.unit (s := S192x5120) ![0, o] S192x256.size (Fin.forall_fin_two.mpr ⟨(by decide : 0 + 192 ≤ 192), ho⟩)

/-- Row `o` of the weights. -/
def weightRow (w : FVec F S40x128 .f32) (o : ℕ) (ho : o + 1 ≤ 40) : FVec F S1x128 .f32 :=
  extractStridedSlice S1x128 ![o, 0] w ⟨rfl, Fin.forall_fin_two.mpr ⟨ho, (by decide : 0 + 128 ≤ 128)⟩⟩

/-- Tile `t` of the normalised rows. -/
def rowsTile (x : Vec F S192x5120 .bf16) (w : Vec F S40x128 .bf16) (t : ℕ) (ht : t < 20) : Vec F S192x256 .bf16 :=
  normTile order (rms fun u => cut128 x (128 * u.val) (by omega))
    (weightRow (widened w) (2 * t) (by omega)) (weightRow (widened w) (2 * t + 1) (by omega))
    (fun y => x ((rect256 (256 * t) (by omega)).idx y))

/-- The twenty stores, the last first. -/
def rowsPieces (x : Vec F S192x5120 .bf16) (w : Vec F S40x128 .bf16) : List (View.Piece (Elt F) S192x5120 .bf16) :=
  List.ofFn fun t : Fin 20 => ⟨rect256 (256 * (19 - t.val)) (by omega), rowsTile x w (19 - t.val) (by omega)⟩

/-- The normalised rows as a function of the kernel's operands. -/
def normed (x : Vec Ideal S192x5120 .bf16) (w : Vec Ideal S40x128 .bf16) (i : Fin 192) (k : Fin 5120) : EReal :=
  x (ix2 i k)
    * Ideal.rsqrt (Ideal.div (∑ k, x (ix2 i k) * x (ix2 i k)) (Ideal.ofBits .f32 0x45A00000#32)
        + Ideal.ofBits .f32 0x358637BD#32)
    * w (ix2 ⟨k.val / 128, by omega⟩ ⟨k.val % 128, by omega⟩)

/-- A row of the widened weights at an index. -/
theorem weightRow_apply (w : Vec Ideal S40x128 .bf16) (o : ℕ) (ho : o + 1 ≤ 40) (l : Fin 128) :
    weightRow (widened w) o ho (ix2 0 l) = w (ix2 ⟨o, by omega⟩ l) := by
  unfold weightRow widened
  pointwise [k0_pay421, k0_pay422]
  try exact congrArg w (by idx_ext)

/-- A tile at an index. -/
theorem rowsTile_apply (x : Vec Ideal S192x5120 .bf16) (w : Vec Ideal S40x128 .bf16) (t : ℕ) (ht : t < 20)
    (i : Fin 192) (j : Fin 256) :
    rowsTile x w t ht (ix2 i j) = normed x w i (source ⟨256 * t + j.val, by omega⟩) := by
  let s : Fin 256 := ⟨j.val / 32 * 32 + j.val % 2 * 16 + j.val % 32 / 2, by omega⟩
  have e : source ⟨256 * t + j.val, by omega⟩ = ⟨256 * t + s.val, by omega⟩ :=
    Fin.ext (by simp only [source, s]; omega)
  rw [e]
  refine (normTile_apply _ _ _ _ (fun k => w (ix2 ⟨2 * t + k.val / 128, by omega⟩ ⟨k.val % 128, by omega⟩))
    (fun l => (weightRow_apply w _ _ l).trans (congrArg w (by idx_ext)))
    (fun l => (weightRow_apply w _ _ l).trans (congrArg w (by idx_ext))) i j s rfl).trans ?_
  rw [rms_apply _ (fun k => x (ix2 i k)) i fun u l => congrArg x (by idx_ext)]
  unfold normed
  refine congrArg₂ (· * ·) (congrArg (· * _) (congrArg x (by unfold rect256; idx_ext))) (congrArg w (by idx_ext))

/-- Where a tile's rectangle lies. -/
theorem mem_rect256 (o : ℕ) (ho : o + 256 ≤ 5120) (i : Fin 192) (k : Fin 5120) (h1 : o ≤ k.val) (h2 : k.val < o + 256) :
    (ix2 i k : S192x5120.Idx) ∈ (rect256 o ho).set := by
  unfold rect256
  rw [Rect.mem_set_unit]
  exact Fin.forall_fin_two.mpr ⟨⟨Nat.zero_le _, by show i.val < 0 + 192; omega⟩, ⟨h1, h2⟩⟩

/-- The twenty stores cover the scratch. -/
theorem rows_cover (x : Vec Ideal S192x5120 .bf16) (w : Vec Ideal S40x128 .bf16) (y : S192x5120.Idx) :
    ∃ p ∈ rowsPieces x w, y ∈ p.1.set := by
  idx_vars y
  refine ⟨_, List.mem_ofFn.mpr ⟨⟨19 - y1.val / 256, by omega⟩, rfl⟩, ?_⟩
  have e : 256 * (19 - (19 - y1.val / 256)) ≤ y1.val ∧ y1.val < 256 * (19 - (19 - y1.val / 256)) + 256 := by omega
  exact mem_rect256 (256 * (19 - (19 - y1.val / 256))) (by omega) y0 y1 e.1 e.2

/-- The scratch at an index. -/
theorem rows_read (x : Vec Ideal S192x5120 .bf16) (w : Vec Ideal S40x128 .bf16)
    (i : Fin 192) (k : Fin 5120) : View.canon (rowsPieces x w) (ix2 i k) = normed x w i (source k) := by
  refine View.canon_apply_of_pieces (Val := Elt Ideal) (e := .bf16)
    (fun y : S192x5120.Idx => (normed x w (y 0) (source (y 1)) : Elt Ideal .bf16)) _ ?_ _ (rows_cover x w _)
  intro p hp
  obtain ⟨t, rfl⟩ := List.mem_ofFn.mp hp
  intro y
  change S192x256.Idx at y
  idx_vars y
  refine (rowsTile_apply x w _ _ _ _).trans ?_
  refine congrArg₂ (normed x w) (Fin.ext ?_) (congrArg source (Fin.ext ?_))
  · show y0.val = 0 + 1 * y0.val
    omega
  · show 256 * (19 - t.val) + y1.val = 256 * (19 - t.val) + 1 * y1.val
    omega

end Cert.KernelIdeal.Layer

end
-- ==== Proof.Trips.lean ====
/- What one trip of each loop over the tiles yields: the tile's product with its loads, added to the running sum. -/
module

public import proofs.«01_k».proof.Proof.Loads
public import proofs.«01_k».proof.Proof.Gen.KernelIdeal.Loops

@[expose] public section

set_option maxRecDepth 16384

noncomputable section

namespace Cert.KernelIdeal.Layer

open Idealize.ShloMosaic Idealize.ShloMosaic.Tactic Cert.Layer
open Cert.KernelIdeal Cert.KernelIdeal.Gen

variable {F : FTy → Type} [FloatOps F]

variable (𝒱 : Variants) (c : Dev nD) (bd : Option 𝒱.V)
  (arg0 : Memref sig .tc .vmem S192x5120 .bf16) (harg0 : arg0.IsWhole)
  (arg1 : Memref sig .tc .vmem S40x128 .bf16) (harg1 : arg1.IsWhole)
  (arg2 : Memref sig .tc .vmem S1x192 .i32) (harg2 : arg2.IsWhole)
  (arg3 : Memref sig .tc .hbm S160x2x20x8x128 .i8) (harg3 : arg3.IsWhole)
  (arg4 : Memref sig .tc .hbm S160x2x5x8x128 .i8) (harg4 : arg4.IsWhole)
  (arg5 : Memref sig .tc .hbm S160x2x5x8x128 .i8) (harg5 : arg5.IsWhole)
  (arg6 : Memref sig .tc .vmem S160x2560 .bf16) (harg6 : arg6.IsWhole)
  (arg7 : Memref sig .tc .vmem S160x640 .bf16) (harg7 : arg7.IsWhole)
  (arg8 : Memref sig .tc .vmem S160x640 .bf16) (harg8 : arg8.IsWhole)
  (arg9 : Memref sig .tc .vmem S20x192x128 .bf16) (harg9 : arg9.IsWhole)
  (arg10 : Memref sig .tc .vmem S5x192x128 .bf16) (harg10 : arg10.IsWhole)
  (arg11 : Memref sig .tc .vmem S5x192x128 .bf16) (harg11 : arg11.IsWhole)
  (arg12 : Memref sig .tc .vmem S160x2x20x8x128 .i8) (harg12 : arg12.IsWhole)
  (arg13 : Memref sig .tc .vmem S160x2x5x8x128 .i8) (harg13 : arg13.IsWhole)
  (arg14 : Memref sig .tc .vmem S160x2x5x8x128 .i8) (harg14 : arg14.IsWhole)
  (arg15 : Memref sig .tc .vmem S192x5120 .bf16) (harg15 : arg15.IsWhole)
  (arg16 : Memref sig .tc .vmem S192x128 .f32) (harg16 : arg16.IsWhole)
  (arg17 : Memref sig .tc .vmem S192x128 .f32) (harg17 : arg17.IsWhole)
  (arg18 : DmaSems sig S3)

/-- One trip of the loop of the first four query heads. -/
theorem trip1 (v176 : FVec F S256x256 .bf16) (v691 : FVec F S1x256 .f32) (v694 : FVec F S192x256 .f32) (v695 : FVec F S192x256 .f32) (X_arg6 : BufTy.Contents (Elt F) arg6.view.ty) (X_arg12 : BufTy.Contents (Elt F) arg12.view.ty) (X_arg15 : BufTy.Contents (Elt F) arg15.view.ty) (k : Fin k0_t1_loop.trips) (acc : FVec F S192x512 .f32) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v176 v691 v694 v695 X_arg6 X_arg12 X_arg15 k acc = tile4 (scaleQ (arg6.view.read (Elt F) X_arg6) 0 (by decide) k) (codesQ (F := F) (arg12.view.read (Elt F) X_arg12) 0 (by decide) k) (columns (arg15.view.read (Elt F) X_arg15) k) acc := by
  unfold tripR_k0_t1 trip_k0_t1
  dsimp only
  sl_unfold_words
  rfl

/-- One trip of the loop of query heads 4 to 7. -/
theorem trip2 (v713 : FVec F S192x512 .f32) (X_arg6 : BufTy.Contents (Elt F) arg6.view.ty) (X_arg12 : BufTy.Contents (Elt F) arg12.view.ty) (X_arg15 : BufTy.Contents (Elt F) arg15.view.ty) (k : Fin k0_t2_loop.trips) (acc : FVec F S192x512 .f32) :
    tripR_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v713 X_arg6 X_arg12 X_arg15 k acc = tile4 (scaleQ (arg6.view.read (Elt F) X_arg6) 512 (by decide) k) (codesQ (F := F) (arg12.view.read (Elt F) X_arg12) 4 (by decide) k) (columns (arg15.view.read (Elt F) X_arg15) k) acc := by
  unfold tripR_k0_t2 trip_k0_t2
  dsimp only
  sl_unfold_words
  rfl

/-- One trip of the loop of query heads 8 to 11. -/
theorem trip3 (v943 : FVec F S192x128 .f32) (v965 : FVec F S192x128 .f32) (X_arg6 : BufTy.Contents (Elt F) arg6.view.ty) (X_arg12 : BufTy.Contents (Elt F) arg12.view.ty) (X_arg15 : BufTy.Contents (Elt F) arg15.view.ty) (k : Fin k0_t3_loop.trips) (acc : FVec F S192x512 .f32) :
    tripR_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v943 v965 X_arg6 X_arg12 X_arg15 k acc = tile4 (scaleQ (arg6.view.read (Elt F) X_arg6) 1024 (by decide) k) (codesQ (F := F) (arg12.view.read (Elt F) X_arg12) 8 (by decide) k) (columns (arg15.view.read (Elt F) X_arg15) k) acc := by
  unfold tripR_k0_t3 trip_k0_t3
  dsimp only
  sl_unfold_words
  rfl

/-- One trip of the loop of query heads 12 to 15. -/
theorem trip4 (v1072 : FVec F S192x128 .f32) (v1074 : FVec F S192x128 .f32) (v1075 : IVec S192x128 32) (v1077 : BitVec 32) (v1078 : IVec S192x128 32) (X_arg6 : BufTy.Contents (Elt F) arg6.view.ty) (X_arg12 : BufTy.Contents (Elt F) arg12.view.ty) (X_arg15 : BufTy.Contents (Elt F) arg15.view.ty) (k : Fin k0_t4_loop.trips) (acc : FVec F S192x512 .f32) :
    tripR_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1072 v1074 v1075 v1077 v1078 X_arg6 X_arg12 X_arg15 k acc = tile4 (scaleQ (arg6.view.read (Elt F) X_arg6) 1536 (by decide) k) (codesQ (F := F) (arg12.view.read (Elt F) X_arg12) 12 (by decide) k) (columns (arg15.view.read (Elt F) X_arg15) k) acc := by
  unfold tripR_k0_t4 trip_k0_t4
  dsimp only
  sl_unfold_words
  rfl

/-- One trip of the loop of query heads 16 to 19. -/
theorem trip5 (v1234 : FVec F S1x192x128 .bf16) (X_arg6 : BufTy.Contents (Elt F) arg6.view.ty) (X_arg12 : BufTy.Contents (Elt F) arg12.view.ty) (X_arg15 : BufTy.Contents (Elt F) arg15.view.ty) (k : Fin k0_t5_loop.trips) (acc : FVec F S192x512 .f32) :
    tripR_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1234 X_arg6 X_arg12 X_arg15 k acc = tile4 (scaleQ (arg6.view.read (Elt F) X_arg6) 2048 (by decide) k) (codesQ (F := F) (arg12.view.read (Elt F) X_arg12) 16 (by decide) k) (columns (arg15.view.read (Elt F) X_arg15) k) acc := by
  unfold tripR_k0_t5 trip_k0_t5
  dsimp only
  sl_unfold_words
  rfl

/-- One trip of the loop of the first four key heads. -/
theorem trip6 (v1334 : FVec F S192x128 .f32) (v1336 : FVec F S192x128 .f32) (v1339 : BitVec 32) (v1341 : IVec S192x128 32) (v1343 : IVec S192x128 1) (v1349 : IVec S192x128 1) (X_arg7 : BufTy.Contents (Elt F) arg7.view.ty) (X_arg13 : BufTy.Contents (Elt F) arg13.view.ty) (X_arg15 : BufTy.Contents (Elt F) arg15.view.ty) (k : Fin k0_t6_loop.trips) (acc : FVec F S192x512 .f32) :
    tripR_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1334 v1336 v1339 v1341 v1343 v1349 X_arg7 X_arg13 X_arg15 k acc = tile4 (scale4 (arg7.view.read (Elt F) X_arg7) k) (codes4 (F := F) (arg13.view.read (Elt F) X_arg13) k) (columns (arg15.view.read (Elt F) X_arg15) k) acc := by
  unfold tripR_k0_t6 trip_k0_t6
  dsimp only
  sl_unfold_words
  rfl

/-- One trip of the loop of the fifth key head. -/
theorem trip7 (v1368 : FVec F S192x512 .f32) (X_arg7 : BufTy.Contents (Elt F) arg7.view.ty) (X_arg13 : BufTy.Contents (Elt F) arg13.view.ty) (X_arg15 : BufTy.Contents (Elt F) arg15.view.ty) (k : Fin k0_t7_loop.trips) (acc : FVec F S192x128 .f32) :
    tripR_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1368 X_arg7 X_arg13 X_arg15 k acc = tile1 (scale1 (arg7.view.read (Elt F) X_arg7) k) (codes1 (F := F) (arg13.view.read (Elt F) X_arg13) k) (columns (arg15.view.read (Elt F) X_arg15) k) acc := by
  unfold tripR_k0_t7 trip_k0_t7
  dsimp only
  sl_unfold_words
  rfl

/-- One trip of the loop of the first four value heads. -/
theorem trip8 (v1499 : FVec F S192x128 .f32) (v1500 : Vec F S192x128 .f32) (X_arg8 : BufTy.Contents (Elt F) arg8.view.ty) (X_arg14 : BufTy.Contents (Elt F) arg14.view.ty) (X_arg15 : BufTy.Contents (Elt F) arg15.view.ty) (k : Fin k0_t8_loop.trips) (acc : FVec F S192x512 .f32) :
    tripR_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1499 v1500 X_arg8 X_arg14 X_arg15 k acc = tile4 (scale4 (arg8.view.read (Elt F) X_arg8) k) (codes4 (F := F) (arg14.view.read (Elt F) X_arg14) k) (columns (arg15.view.read (Elt F) X_arg15) k) acc := by
  unfold tripR_k0_t8 trip_k0_t8
  dsimp only
  sl_unfold_words
  rfl

/-- One trip of the loop of the fifth value head. -/
theorem trip9 (X_arg8 : BufTy.Contents (Elt F) arg8.view.ty) (X_arg14 : BufTy.Contents (Elt F) arg14.view.ty) (X_arg15 : BufTy.Contents (Elt F) arg15.view.ty) (k : Fin k0_t9_loop.trips) (acc : FVec F S192x128 .f32) :
    tripR_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 X_arg8 X_arg14 X_arg15 k acc = tile1 (scale1 (arg8.view.read (Elt F) X_arg8) k) (codes1 (F := F) (arg14.view.read (Elt F) X_arg14) k) (columns (arg15.view.read (Elt F) X_arg15) k) acc := by
  unfold tripR_k0_t9 trip_k0_t9
  dsimp only
  sl_unfold_words
  rfl

end Cert.KernelIdeal.Layer

end
-- ==== Proof.Results.lean ====
/- What each loop over the tiles ends with: a block of a projection's columns. -/
module

public import proofs.«01_k».proof.Proof.Trips
public import proofs.«01_k».proof.Proof.Sums

@[expose] public section

set_option maxRecDepth 16384

noncomputable section

namespace Cert.KernelIdeal.Layer

open Idealize.ShloMosaic Idealize.ShloMosaic.Tactic Cert.Layer
open Cert.KernelIdeal Cert.KernelIdeal.Gen

/-- A loop over four query heads, from head `4 a`. -/
theorem loopQ (a : ℕ) (ha : a < 5) (G6 : Vec Ideal S160x2560 .bf16) (G12 : Vec Ideal S160x2x20x8x128 .i8)
    (G15 : Vec Ideal S192x5120 .bf16) (f : ℕ → FVec Ideal S192x512 .f32) (h0 : ∀ y, f 0 y = 0)
    (hs : ∀ k : Fin 20, f (k.val + 1) = tile4 (scaleQ G6 (512 * a) (by omega) k)
      (codesQ (F := Ideal) G12 (4 * a) (by omega) k) (columns G15 k) (f k.val))
    (x : Fin 192 → Fin 5120 → EReal) (P : IVec ⟨3, ![2560, 160, 16]⟩ 8) (S : FVec Ideal ⟨2, ![2560, 160]⟩ .bf16)
    (hx : ∀ i k, G15 (ix2 i k) = x i (source k)) (hS : ∀ g n, G6 (ix2 g n) = S (ix2 n g))
    (hP : ∀ (g : Fin 160) (h : Fin 2) (t : Fin 20) (r : Fin 8) (l : Fin 128),
      G12 (ix5 g h t r l) = P (ix3 ⟨128 * t.val + l.val, by omega⟩ g ⟨8 * h.val + r.val, by omega⟩))
    (m : Fin 192) (i : Fin 4) (l : Fin 128) :
    f 20 (ix2 m ⟨i.val * 128 + l.val, by omega⟩) = proj (x m) P S ⟨(4 * a + i.val) * 128 + l.val, by omega⟩ := by
  refine trips4 f _ _ _ h0 hs x P S (fun i l => ⟨(4 * a + i.val) * 128 + l.val, by omega⟩) ?_ ?_ ?_ m i l
  · intro k m j
    rw [columns_apply, hx]
  · intro k j i l
    rw [scaleQ_apply, hS]
    exact congrArg S (by idx_ext)
  · intro k j h i r l
    rw [codesQ_apply, hP]
    exact congrArg P (by idx_ext)

/-- The loop over the first four key or value heads. -/
theorem loop4 (G7 : Vec Ideal S160x640 .bf16) (G13 : Vec Ideal S160x2x5x8x128 .i8)
    (G15 : Vec Ideal S192x5120 .bf16) (f : ℕ → FVec Ideal S192x512 .f32) (h0 : ∀ y, f 0 y = 0)
    (hs : ∀ k : Fin 20, f (k.val + 1) = tile4 (scale4 G7 k) (codes4 (F := Ideal) G13 k) (columns G15 k) (f k.val))
    (x : Fin 192 → Fin 5120 → EReal) (P : IVec ⟨3, ![640, 160, 16]⟩ 8) (S : FVec Ideal ⟨2, ![640, 160]⟩ .bf16)
    (hx : ∀ i k, G15 (ix2 i k) = x i (source k)) (hS : ∀ g n, G7 (ix2 g n) = S (ix2 n g))
    (hP : ∀ (g : Fin 160) (h : Fin 2) (t : Fin 5) (r : Fin 8) (l : Fin 128),
      G13 (ix5 g h t r l) = P (ix3 ⟨128 * t.val + l.val, by omega⟩ g ⟨8 * h.val + r.val, by omega⟩))
    (m : Fin 192) (i : Fin 4) (l : Fin 128) :
    f 20 (ix2 m ⟨i.val * 128 + l.val, by omega⟩) = proj (x m) P S ⟨i.val * 128 + l.val, by omega⟩ := by
  refine trips4 f _ _ _ h0 hs x P S (fun i l => ⟨i.val * 128 + l.val, by omega⟩) ?_ ?_ ?_ m i l
  · intro k m j
    rw [columns_apply, hx]
  · intro k j i l
    rw [scale4_apply, hS]
  · intro k j h i r l
    rw [codes4_apply, hP]
    exact congrArg P (by idx_ext)

/-- The loop over the fifth key or value head. -/
theorem loop1 (G7 : Vec Ideal S160x640 .bf16) (G13 : Vec Ideal S160x2x5x8x128 .i8)
    (G15 : Vec Ideal S192x5120 .bf16) (f : ℕ → FVec Ideal S192x128 .f32) (h0 : ∀ y, f 0 y = 0)
    (hs : ∀ k : Fin 20, f (k.val + 1) = tile1 (scale1 G7 k) (codes1 (F := Ideal) G13 k) (columns G15 k) (f k.val))
    (x : Fin 192 → Fin 5120 → EReal) (P : IVec ⟨3, ![640, 160, 16]⟩ 8) (S : FVec Ideal ⟨2, ![640, 160]⟩ .bf16)
    (hx : ∀ i k, G15 (ix2 i k) = x i (source k)) (hS : ∀ g n, G7 (ix2 g n) = S (ix2 n g))
    (hP : ∀ (g : Fin 160) (h : Fin 2) (t : Fin 5) (r : Fin 8) (l : Fin 128),
      G13 (ix5 g h t r l) = P (ix3 ⟨128 * t.val + l.val, by omega⟩ g ⟨8 * h.val + r.val, by omega⟩))
    (m : Fin 192) (l : Fin 128) :
    f 20 (ix2 m l) = proj (x m) P S ⟨4 * 128 + l.val, by omega⟩ := by
  refine trips1 f _ _ _ h0 hs x P S (fun l => ⟨4 * 128 + l.val, by omega⟩) ?_ ?_ ?_ m l
  · intro k m j
    rw [columns_apply, hx]
  · intro k j l
    rw [scale1_apply, hS]
  · intro k j h r l
    rw [codes1_apply, hP]
    exact congrArg P (by idx_ext)

variable (𝒱 : Variants) (c : Dev nD) (bd : Option 𝒱.V)
  (arg0 : Memref sig .tc .vmem S192x5120 .bf16) (harg0 : arg0.IsWhole)
  (arg1 : Memref sig .tc .vmem S40x128 .bf16) (harg1 : arg1.IsWhole)
  (arg2 : Memref sig .tc .vmem S1x192 .i32) (harg2 : arg2.IsWhole)
  (arg3 : Memref sig .tc .hbm S160x2x20x8x128 .i8) (harg3 : arg3.IsWhole)
  (arg4 : Memref sig .tc .hbm S160x2x5x8x128 .i8) (harg4 : arg4.IsWhole)
  (arg5 : Memref sig .tc .hbm S160x2x5x8x128 .i8) (harg5 : arg5.IsWhole)
  (arg6 : Memref sig .tc .vmem S160x2560 .bf16) (harg6 : arg6.IsWhole)
  (arg7 : Memref sig .tc .vmem S160x640 .bf16) (harg7 : arg7.IsWhole)
  (arg8 : Memref sig .tc .vmem S160x640 .bf16) (harg8 : arg8.IsWhole)
  (arg9 : Memref sig .tc .vmem S20x192x128 .bf16) (harg9 : arg9.IsWhole)
  (arg10 : Memref sig .tc .vmem S5x192x128 .bf16) (harg10 : arg10.IsWhole)
  (arg11 : Memref sig .tc .vmem S5x192x128 .bf16) (harg11 : arg11.IsWhole)
  (arg12 : Memref sig .tc .vmem S160x2x20x8x128 .i8) (harg12 : arg12.IsWhole)
  (arg13 : Memref sig .tc .vmem S160x2x5x8x128 .i8) (harg13 : arg13.IsWhole)
  (arg14 : Memref sig .tc .vmem S160x2x5x8x128 .i8) (harg14 : arg14.IsWhole)
  (arg15 : Memref sig .tc .vmem S192x5120 .bf16) (harg15 : arg15.IsWhole)
  (arg16 : Memref sig .tc .vmem S192x128 .f32) (harg16 : arg16.IsWhole)
  (arg17 : Memref sig .tc .vmem S192x128 .f32) (harg17 : arg17.IsWhole)
  (arg18 : DmaSems sig S3)

/-- The loop of the first four query heads ends with their projections. -/
theorem loop_1 (v176 : FVec Ideal S256x256 .bf16) (v691 : FVec Ideal S1x256 .f32) (v694 : FVec Ideal S192x256 .f32) (v695 : FVec Ideal S192x256 .f32) (X_arg6 : BufTy.Contents (Elt Ideal) arg6.view.ty) (X_arg12 : BufTy.Contents (Elt Ideal) arg12.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![2560, 160, 16]⟩ 8) (S : FVec Ideal ⟨2, ![2560, 160]⟩ .bf16)
    (hx : ∀ i k, arg15.view.read (Elt Ideal) X_arg15 (ix2 i k) = x i (source k))
    (hS : ∀ g n, arg6.view.read (Elt Ideal) X_arg6 (ix2 g n) = S (ix2 n g))
    (hP : ∀ (g : Fin 160) (h : Fin 2) (t : Fin 20) (r : Fin 8) (l : Fin 128), arg12.view.read (Elt Ideal) X_arg12
      (ix5 g h t r l) = P (ix3 ⟨128 * t.val + l.val, by omega⟩ g ⟨8 * h.val + r.val, by omega⟩))
    (m : Fin 192) (i : Fin 4) (l : Fin 128) :
    st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v176 v691 v694 v695 X_arg6 X_arg12 X_arg15 init n (ix2 m ⟨i.val * 128 + l.val, by omega⟩)
      = proj (x m) P S ⟨(4 * 0 + i.val) * 128 + l.val, by omega⟩ := by
  subst hn
  exact loopQ 0 (by decide) _ _ _ _ h0 (fun k => (st_k0_t1_succ ..).trans (trip1 ..)) x P S hx hS hP m i l

/-- The loop of query heads 4 to 7 ends with their projections. -/
theorem loop_2 (v713 : FVec Ideal S192x512 .f32) (X_arg6 : BufTy.Contents (Elt Ideal) arg6.view.ty) (X_arg12 : BufTy.Contents (Elt Ideal) arg12.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![2560, 160, 16]⟩ 8) (S : FVec Ideal ⟨2, ![2560, 160]⟩ .bf16)
    (hx : ∀ i k, arg15.view.read (Elt Ideal) X_arg15 (ix2 i k) = x i (source k))
    (hS : ∀ g n, arg6.view.read (Elt Ideal) X_arg6 (ix2 g n) = S (ix2 n g))
    (hP : ∀ (g : Fin 160) (h : Fin 2) (t : Fin 20) (r : Fin 8) (l : Fin 128), arg12.view.read (Elt Ideal) X_arg12
      (ix5 g h t r l) = P (ix3 ⟨128 * t.val + l.val, by omega⟩ g ⟨8 * h.val + r.val, by omega⟩))
    (m : Fin 192) (i : Fin 4) (l : Fin 128) :
    st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v713 X_arg6 X_arg12 X_arg15 init n (ix2 m ⟨i.val * 128 + l.val, by omega⟩)
      = proj (x m) P S ⟨(4 * 1 + i.val) * 128 + l.val, by omega⟩ := by
  subst hn
  exact loopQ 1 (by decide) _ _ _ _ h0 (fun k => (st_k0_t2_succ ..).trans (trip2 ..)) x P S hx hS hP m i l

/-- The loop of query heads 8 to 11 ends with their projections. -/
theorem loop_3 (v943 : FVec Ideal S192x128 .f32) (v965 : FVec Ideal S192x128 .f32) (X_arg6 : BufTy.Contents (Elt Ideal) arg6.view.ty) (X_arg12 : BufTy.Contents (Elt Ideal) arg12.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![2560, 160, 16]⟩ 8) (S : FVec Ideal ⟨2, ![2560, 160]⟩ .bf16)
    (hx : ∀ i k, arg15.view.read (Elt Ideal) X_arg15 (ix2 i k) = x i (source k))
    (hS : ∀ g n, arg6.view.read (Elt Ideal) X_arg6 (ix2 g n) = S (ix2 n g))
    (hP : ∀ (g : Fin 160) (h : Fin 2) (t : Fin 20) (r : Fin 8) (l : Fin 128), arg12.view.read (Elt Ideal) X_arg12
      (ix5 g h t r l) = P (ix3 ⟨128 * t.val + l.val, by omega⟩ g ⟨8 * h.val + r.val, by omega⟩))
    (m : Fin 192) (i : Fin 4) (l : Fin 128) :
    st_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v943 v965 X_arg6 X_arg12 X_arg15 init n (ix2 m ⟨i.val * 128 + l.val, by omega⟩)
      = proj (x m) P S ⟨(4 * 2 + i.val) * 128 + l.val, by omega⟩ := by
  subst hn
  exact loopQ 2 (by decide) _ _ _ _ h0 (fun k => (st_k0_t3_succ ..).trans (trip3 ..)) x P S hx hS hP m i l

/-- The loop of query heads 12 to 15 ends with their projections. -/
theorem loop_4 (v1072 : FVec Ideal S192x128 .f32) (v1074 : FVec Ideal S192x128 .f32) (v1075 : IVec S192x128 32) (v1077 : BitVec 32) (v1078 : IVec S192x128 32) (X_arg6 : BufTy.Contents (Elt Ideal) arg6.view.ty) (X_arg12 : BufTy.Contents (Elt Ideal) arg12.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![2560, 160, 16]⟩ 8) (S : FVec Ideal ⟨2, ![2560, 160]⟩ .bf16)
    (hx : ∀ i k, arg15.view.read (Elt Ideal) X_arg15 (ix2 i k) = x i (source k))
    (hS : ∀ g n, arg6.view.read (Elt Ideal) X_arg6 (ix2 g n) = S (ix2 n g))
    (hP : ∀ (g : Fin 160) (h : Fin 2) (t : Fin 20) (r : Fin 8) (l : Fin 128), arg12.view.read (Elt Ideal) X_arg12
      (ix5 g h t r l) = P (ix3 ⟨128 * t.val + l.val, by omega⟩ g ⟨8 * h.val + r.val, by omega⟩))
    (m : Fin 192) (i : Fin 4) (l : Fin 128) :
    st_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1072 v1074 v1075 v1077 v1078 X_arg6 X_arg12 X_arg15 init n (ix2 m ⟨i.val * 128 + l.val, by omega⟩)
      = proj (x m) P S ⟨(4 * 3 + i.val) * 128 + l.val, by omega⟩ := by
  subst hn
  exact loopQ 3 (by decide) _ _ _ _ h0 (fun k => (st_k0_t4_succ ..).trans (trip4 ..)) x P S hx hS hP m i l

/-- The loop of query heads 16 to 19 ends with their projections. -/
theorem loop_5 (v1234 : FVec Ideal S1x192x128 .bf16) (X_arg6 : BufTy.Contents (Elt Ideal) arg6.view.ty) (X_arg12 : BufTy.Contents (Elt Ideal) arg12.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![2560, 160, 16]⟩ 8) (S : FVec Ideal ⟨2, ![2560, 160]⟩ .bf16)
    (hx : ∀ i k, arg15.view.read (Elt Ideal) X_arg15 (ix2 i k) = x i (source k))
    (hS : ∀ g n, arg6.view.read (Elt Ideal) X_arg6 (ix2 g n) = S (ix2 n g))
    (hP : ∀ (g : Fin 160) (h : Fin 2) (t : Fin 20) (r : Fin 8) (l : Fin 128), arg12.view.read (Elt Ideal) X_arg12
      (ix5 g h t r l) = P (ix3 ⟨128 * t.val + l.val, by omega⟩ g ⟨8 * h.val + r.val, by omega⟩))
    (m : Fin 192) (i : Fin 4) (l : Fin 128) :
    st_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1234 X_arg6 X_arg12 X_arg15 init n (ix2 m ⟨i.val * 128 + l.val, by omega⟩)
      = proj (x m) P S ⟨(4 * 4 + i.val) * 128 + l.val, by omega⟩ := by
  subst hn
  exact loopQ 4 (by decide) _ _ _ _ h0 (fun k => (st_k0_t5_succ ..).trans (trip5 ..)) x P S hx hS hP m i l

/-- The loop of the first four key heads ends with their projections. -/
theorem loop_6 (v1334 : FVec Ideal S192x128 .f32) (v1336 : FVec Ideal S192x128 .f32) (v1339 : BitVec 32) (v1341 : IVec S192x128 32) (v1343 : IVec S192x128 1) (v1349 : IVec S192x128 1) (X_arg7 : BufTy.Contents (Elt Ideal) arg7.view.ty) (X_arg13 : BufTy.Contents (Elt Ideal) arg13.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![640, 160, 16]⟩ 8) (S : FVec Ideal ⟨2, ![640, 160]⟩ .bf16)
    (hx : ∀ i k, arg15.view.read (Elt Ideal) X_arg15 (ix2 i k) = x i (source k))
    (hS : ∀ g n, arg7.view.read (Elt Ideal) X_arg7 (ix2 g n) = S (ix2 n g))
    (hP : ∀ (g : Fin 160) (h : Fin 2) (t : Fin 5) (r : Fin 8) (l : Fin 128), arg13.view.read (Elt Ideal) X_arg13
      (ix5 g h t r l) = P (ix3 ⟨128 * t.val + l.val, by omega⟩ g ⟨8 * h.val + r.val, by omega⟩))
    (m : Fin 192) (i : Fin 4) (l : Fin 128) :
    st_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1334 v1336 v1339 v1341 v1343 v1349 X_arg7 X_arg13 X_arg15 init n (ix2 m ⟨i.val * 128 + l.val, by omega⟩)
      = proj (x m) P S ⟨i.val * 128 + l.val, by omega⟩ := by
  subst hn
  exact loop4 _ _ _ _ h0 (fun k => (st_k0_t6_succ ..).trans (trip6 ..)) x P S hx hS hP m i l

/-- The loop of the fifth key head ends with their projections. -/
theorem loop_7 (v1368 : FVec Ideal S192x512 .f32) (X_arg7 : BufTy.Contents (Elt Ideal) arg7.view.ty) (X_arg13 : BufTy.Contents (Elt Ideal) arg13.view.ty) (X_arg15 : BufTy.Contents (Elt Ideal) arg15.view.ty)
    (init : FVec Ideal S192x128 .f32) (h0 : ∀ y, init y = 0) (n : ℕ) (hn : n = 20)
    (x : Fin 192 → Fin 5120 → EReal) (P : IVec ⟨3, ![640, 160, 16]⟩ 8) (S : FVec Ideal ⟨2, ![640, 160]⟩ .bf16)
    (hx : ∀ i k, arg15.view.read (Elt Ideal) X_arg15 (ix2 i k) = x i (source k))
    (hS : ∀ g n, arg7.view.read (Elt Ideal) X_arg7 (ix2 g n) = S (ix2 n g))
    (hP : ∀ (g : Fin 160) (h : Fin 2) (t : Fin 5) (r : Fin 8) (l : Fin 128), arg13.view.read (Elt Ideal) X_arg13
      (ix5 g h t r l) = P (ix3 ⟨128 * t.val + l.val, by omega⟩ g ⟨8 * h.val + r.val, by omega⟩))
    (m : Fin 192) (l : Fin 128) :
    st_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1368 X_arg7 X_arg13 X_arg15 init n (ix2 m l)
      = proj (x m) P S ⟨4 * 128 + l.val, by omega⟩ := by
  subst hn
  exact loop1 _ _ _ _ h0 (fun k => (st_k0_t7_succ ..).trans (trip7 ..)) x P S hx hS hP m l

/-- The loop of the first four value heads ends with their projections. -/
theorem loop_8 (v1499 : FVec Ideal S192x128 .f32) (v1500 : Vec Ideal S192x128 .f32) (X_arg8 : BufTy.Contents (Elt Ideal) arg8.view.ty) (X_arg14 : BufTy.Contents (Elt Ideal) arg14.view.ty) (X_arg15 : BufTy.Contents (Elt Ideal) arg15.view.ty)
    (init : FVec Ideal S192x512 .f32) (h0 : ∀ y, init y = 0) (n : ℕ) (hn : n = 20)
    (x : Fin 192 → Fin 5120 → EReal) (P : IVec ⟨3, ![640, 160, 16]⟩ 8) (S : FVec Ideal ⟨2, ![640, 160]⟩ .bf16)
    (hx : ∀ i k, arg15.view.read (Elt Ideal) X_arg15 (ix2 i k) = x i (source k))
    (hS : ∀ g n, arg8.view.read (Elt Ideal) X_arg8 (ix2 g n) = S (ix2 n g))
    (hP : ∀ (g : Fin 160) (h : Fin 2) (t : Fin 5) (r : Fin 8) (l : Fin 128), arg14.view.read (Elt Ideal) X_arg14
      (ix5 g h t r l) = P (ix3 ⟨128 * t.val + l.val, by omega⟩ g ⟨8 * h.val + r.val, by omega⟩))
    (m : Fin 192) (i : Fin 4) (l : Fin 128) :
    st_k0_t8 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v1499 v1500 X_arg8 X_arg14 X_arg15 init n (ix2 m ⟨i.val * 128 + l.val, by omega⟩)
      = proj (x m) P S ⟨i.val * 128 + l.val, by omega⟩ := by
  subst hn
  exact loop4 _ _ _ _ h0 (fun k => (st_k0_t8_succ ..).trans (trip8 ..)) x P S hx hS hP m i l

/-- The loop of the fifth value head ends with their projections. -/
theorem loop_9 (X_arg8 : BufTy.Contents (Elt Ideal) arg8.view.ty) (X_arg14 : BufTy.Contents (Elt Ideal) arg14.view.ty) (X_arg15 : BufTy.Contents (Elt Ideal) arg15.view.ty)
    (init : FVec Ideal S192x128 .f32) (h0 : ∀ y, init y = 0) (n : ℕ) (hn : n = 20)
    (x : Fin 192 → Fin 5120 → EReal) (P : IVec ⟨3, ![640, 160, 16]⟩ 8) (S : FVec Ideal ⟨2, ![640, 160]⟩ .bf16)
    (hx : ∀ i k, arg15.view.read (Elt Ideal) X_arg15 (ix2 i k) = x i (source k))
    (hS : ∀ g n, arg8.view.read (Elt Ideal) X_arg8 (ix2 g n) = S (ix2 n g))
    (hP : ∀ (g : Fin 160) (h : Fin 2) (t : Fin 5) (r : Fin 8) (l : Fin 128), arg14.view.read (Elt Ideal) X_arg14
      (ix5 g h t r l) = P (ix3 ⟨128 * t.val + l.val, by omega⟩ g ⟨8 * h.val + r.val, by omega⟩))
    (m : Fin 192) (l : Fin 128) :
    st_k0_t9 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 X_arg8 X_arg14 X_arg15 init n (ix2 m l)
      = proj (x m) P S ⟨4 * 128 + l.val, by omega⟩ := by
  subst hn
  exact loop1 _ _ _ _ h0 (fun k => (st_k0_t9_succ ..).trans (trip9 ..)) x P S hx hS hP m l

end Cert.KernelIdeal.Layer

end
-- ==== Proof.Body.lean ====
/- What the kernel's body computes on the way: the scratch arrays as its loops read them and the value each loop ends
   with. -/
module

public import proofs.«01_k».proof.Proof.Rows
public import proofs.«01_k».proof.Proof.Results
public import proofs.«01_k».proof.Proof.Gen.KernelIdeal.Frame

@[expose] public section

set_option maxRecDepth 16384

noncomputable section

namespace Cert.KernelIdeal.Layer

open Idealize.ShloMosaic Idealize.ShloMosaic.Tactic Cert.Layer
open Cert.KernelIdeal Cert.KernelIdeal.Gen

variable (c : Dev nD) (arg0 : Memref sig .tc .vmem S192x5120 .bf16) (harg0 : arg0.IsWhole)
  (arg1 : Memref sig .tc .vmem S40x128 .bf16) (harg1 : arg1.IsWhole)
  (arg2 : Memref sig .tc .vmem S1x192 .i32) (harg2 : arg2.IsWhole)
  (arg6 : Memref sig .tc .vmem S160x2560 .bf16) (harg6 : arg6.IsWhole)
  (arg7 : Memref sig .tc .vmem S160x640 .bf16) (harg7 : arg7.IsWhole)
  (arg8 : Memref sig .tc .vmem S160x640 .bf16) (harg8 : arg8.IsWhole)
  (arg9 : Memref sig .tc .vmem S20x192x128 .bf16) (harg9 : arg9.IsWhole)
  (arg10 : Memref sig .tc .vmem S5x192x128 .bf16) (harg10 : arg10.IsWhole)
  (arg11 : Memref sig .tc .vmem S5x192x128 .bf16) (harg11 : arg11.IsWhole)
  (arg12 : Memref sig .tc .vmem S160x2x20x8x128 .i8) (harg12 : arg12.IsWhole)
  (arg13 : Memref sig .tc .vmem S160x2x5x8x128 .i8) (harg13 : arg13.IsWhole)
  (arg14 : Memref sig .tc .vmem S160x2x5x8x128 .i8) (harg14 : arg14.IsWhole)
  (arg15 : Memref sig .tc .vmem S192x5120 .bf16) (harg15 : arg15.IsWhole)
  (arg16 : Memref sig .tc .vmem S192x128 .f32) (harg16 : arg16.IsWhole)
  (arg17 : Memref sig .tc .vmem S192x128 .f32) (harg17 : arg17.IsWhole)
  (x0 : Vec Ideal S192x5120 .bf16)
  (x1 : Vec Ideal S40x128 .bf16)
  (x2 : Vec Ideal S1x192 .i32)
  (x3 : Vec Ideal S160x2560 .bf16)
  (x4 : Vec Ideal S160x640 .bf16)
  (x5 : Vec Ideal S160x640 .bf16)
  (fh0 : HbBuf0 (F := Ideal) c hbM0_0)
  (fh1 : HbBuf0 (F := Ideal) c hbM0_1)
  (fh2 : HbBuf0 (F := Ideal) c hbM0_2)

/-- The twenty stores of the normalised rows. -/
theorem stored_rows : kernelRun0_A.sl.HS3_20 (F := Ideal) c arg0 harg0 arg1 harg1 x0 x1
    = rowsPieces (arg0.view.read (Elt Ideal) (harg0.unread x0)) (View.readAt (Elt Ideal) arg1.view
      (Rect.unit (s := S40x128) ![0, 0] S40x128.size inb_S40x128_S40x128_0_0).toLoadRect (harg1.unread x1)) := by
  rfl

/-- A load of a whole array is the array. -/
theorem load_whole {s : Shape} {e : EltTy} (M : Memref sig .tc .vmem s e) (h : M.IsWhole) (x : Vec Ideal s e)
    (o : Fin s.rank → ℕ) (ho : o = fun _ => 0) (inb) :
    View.readAt (Elt Ideal) M.view (Rect.unit (s := s) o s.size inb).toLoadRect (h.unread x) = x := by
  exact (View.ld_unit_zero ho inb _).trans (h.read_unread x)

/-- The scratch of normalised rows as the loops read it. -/
theorem rows_at (i : Fin 192) (k : Fin 5120) :
    arg15.view.read (Elt Ideal) (arg15.view.writes (Elt Ideal) arg15.view.junk
      (kernelRun0_A.sl.HS3_20 c arg0 harg0 arg1 harg1 x0 x1)) (ix2 i k) = normed x0 x1 i (source k) := by
  rw [stored_rows, View.read_writes_eq_canon _ _ _ (rows_cover _ _), rows_read, harg0.read_unread, load_whole arg1 harg1 x1 _ (by decide)]

/-- The table of cosines as the heads read it. -/
theorem cos_read (pos : IVec ⟨2, ![192, 1]⟩ 32) (hpos : ∀ i, x2 (ix2 0 i) = pos (ix2 i 0)) (i : Fin 192) (l : Fin 128) :
    kernelRun0_A.sl.v715 c arg2 harg2 arg16 x2 (ix2 i l) = Ideal.cos (angle pos i l) := by
  unfold kernelRun0_A.sl.v715 kernelRun0_A.sl.HS4_1 kernelRun0_A.sl.r
  rw [View.readCov_eq_canon _ _ _ fun j => ⟨_, List.mem_singleton.mpr rfl, LoadRect.idx_mem _ j⟩]
  refine (View.canon_cons_emb _ _ _ _).trans ?_
  rw [load_whole arg2 harg2 x2 _ (by decide)]
  exact cos_apply x2 pos hpos i l

/-- The table of signed sines as the heads read it. -/
theorem sin_read (pos : IVec ⟨2, ![192, 1]⟩ 32) (hpos : ∀ i, x2 (ix2 0 i) = pos (ix2 i 0)) (i : Fin 192) (l : Fin 128) :
    kernelRun0_A.sl.v739 c arg2 harg2 arg17 x2 (ix2 i l) = signedSin pos i l := by
  unfold kernelRun0_A.sl.v739 kernelRun0_A.sl.HS5_1 kernelRun0_A.sl.r
  rw [View.readCov_eq_canon _ _ _ fun j => ⟨_, List.mem_singleton.mpr rfl, LoadRect.idx_mem _ j⟩]
  refine (View.canon_cons_emb _ _ _ _).trans ?_
  rw [load_whole arg2 harg2 x2 _ (by decide)]
  exact sin_apply x2 pos hpos i l

/-- The sums of four heads start at zero. -/
theorem zero4 (y : S192x512.Idx) : k0_pay465 (F := Ideal) y = 0 := by
  idx_vars y
  pointwise [k0_pay465]

/-- The sums of one head start at zero. -/
theorem zero1 (y : S192x128.Idx) : k0_pay2 (F := Ideal) y = 0 := by
  idx_vars y
  pointwise [k0_pay2]

/-- The value of the loop of the first four query heads. -/
theorem value_1 (P : IVec ⟨3, ![2560, 160, 16]⟩ 8) (S : FVec Ideal ⟨2, ![2560, 160]⟩ .bf16)
    (hS : ∀ g n, x3 (ix2 g n) = S (ix2 n g))
    (hP : ∀ (g : Fin 160) (h : Fin 2) (t : Fin 20) (r : Fin 8) (l : Fin 128),
      (Memref.whole main_v4).view.read (Elt Ideal) fh0 (ix5 g h t r l)
        = P (ix3 ⟨128 * t.val + l.val, by omega⟩ g ⟨8 * h.val + r.val, by omega⟩))
    (m : Fin 192) (i : Fin 4) (l : Fin 128) :
    kernelRun0_A.sl.r_24 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0
      (ix2 m ⟨i.val * 128 + l.val, by omega⟩) = proj (normed x0 x1 m) P S ⟨(4 * 0 + i.val) * 128 + l.val, by omega⟩ := by
  unfold kernelRun0_A.sl.r_24
  refine loop_1 (h0 := ?_) (hn := ?_) (x := normed x0 x1) (P := P) (S := S) (hx := ?_) (hS := ?_) (hP := ?_) ..
  · exact zero4
  · rfl
  · intro i k
    exact rows_at ..
  · rw [harg6.read_unread]; exact hS
  · rw [View.read_writes_whole]; exact hP

/-- The value of the loop of query heads 4 to 7. -/
theorem value_2 (P : IVec ⟨3, ![2560, 160, 16]⟩ 8) (S : FVec Ideal ⟨2, ![2560, 160]⟩ .bf16)
    (hS : ∀ g n, x3 (ix2 g n) = S (ix2 n g))
    (hP : ∀ (g : Fin 160) (h : Fin 2) (t : Fin 20) (r : Fin 8) (l : Fin 128),
      (Memref.whole main_v4).view.read (Elt Ideal) fh0 (ix5 g h t r l)
        = P (ix3 ⟨128 * t.val + l.val, by omega⟩ g ⟨8 * h.val + r.val, by omega⟩))
    (m : Fin 192) (i : Fin 4) (l : Fin 128) :
    kernelRun0_A.sl.r_29 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0
      (ix2 m ⟨i.val * 128 + l.val, by omega⟩) = proj (normed x0 x1 m) P S ⟨(4 * 1 + i.val) * 128 + l.val, by omega⟩ := by
  unfold kernelRun0_A.sl.r_29
  refine loop_2 (h0 := ?_) (hn := ?_) (x := normed x0 x1) (P := P) (S := S) (hx := ?_) (hS := ?_) (hP := ?_) ..
  · exact zero4
  · rfl
  · intro i k
    exact rows_at ..
  · rw [harg6.read_unread]; exact hS
  · rw [View.read_writes_whole]; exact hP

/-- The value of the loop of query heads 8 to 11. -/
theorem value_3 (P : IVec ⟨3, ![2560, 160, 16]⟩ 8) (S : FVec Ideal ⟨2, ![2560, 160]⟩ .bf16)
    (hS : ∀ g n, x3 (ix2 g n) = S (ix2 n g))
    (hP : ∀ (g : Fin 160) (h : Fin 2) (t : Fin 20) (r : Fin 8) (l : Fin 128),
      (Memref.whole main_v4).view.read (Elt Ideal) fh0 (ix5 g h t r l)
        = P (ix3 ⟨128 * t.val + l.val, by omega⟩ g ⟨8 * h.val + r.val, by omega⟩))
    (m : Fin 192) (i : Fin 4) (l : Fin 128) :
    kernelRun0_A.sl.r_37 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0
      (ix2 m ⟨i.val * 128 + l.val, by omega⟩) = proj (normed x0 x1 m) P S ⟨(4 * 2 + i.val) * 128 + l.val, by omega⟩ := by
  unfold kernelRun0_A.sl.r_37
  refine loop_3 (h0 := ?_) (hn := ?_) (x := normed x0 x1) (P := P) (S := S) (hx := ?_) (hS := ?_) (hP := ?_) ..
  · exact zero4
  · rfl
  · intro i k
    exact rows_at ..
  · rw [harg6.read_unread]; exact hS
  · rw [View.read_writes_whole]; exact hP

/-- The value of the loop of query heads 12 to 15. -/
theorem value_4 (P : IVec ⟨3, ![2560, 160, 16]⟩ 8) (S : FVec Ideal ⟨2, ![2560, 160]⟩ .bf16)
    (hS : ∀ g n, x3 (ix2 g n) = S (ix2 n g))
    (hP : ∀ (g : Fin 160) (h : Fin 2) (t : Fin 20) (r : Fin 8) (l : Fin 128),
      (Memref.whole main_v4).view.read (Elt Ideal) fh0 (ix5 g h t r l)
        = P (ix3 ⟨128 * t.val + l.val, by omega⟩ g ⟨8 * h.val + r.val, by omega⟩))
    (m : Fin 192) (i : Fin 4) (l : Fin 128) :
    kernelRun0_A.sl.r_43 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0
      (ix2 m ⟨i.val * 128 + l.val, by omega⟩) = proj (normed x0 x1 m) P S ⟨(4 * 3 + i.val) * 128 + l.val, by omega⟩ := by
  unfold kernelRun0_A.sl.r_43
  refine loop_4 (h0 := ?_) (hn := ?_) (x := normed x0 x1) (P := P) (S := S) (hx := ?_) (hS := ?_) (hP := ?_) ..
  · exact zero4
  · rfl
  · intro i k
    exact rows_at ..
  · rw [harg6.read_unread]; exact hS
  · rw [View.read_writes_whole]; exact hP

/-- The value of the loop of query heads 16 to 19. -/
theorem value_5 (P : IVec ⟨3, ![2560, 160, 16]⟩ 8) (S : FVec Ideal ⟨2, ![2560, 160]⟩ .bf16)
    (hS : ∀ g n, x3 (ix2 g n) = S (ix2 n g))
    (hP : ∀ (g : Fin 160) (h : Fin 2) (t : Fin 20) (r : Fin 8) (l : Fin 128),
      (Memref.whole main_v4).view.read (Elt Ideal) fh0 (ix5 g h t r l)
        = P (ix3 ⟨128 * t.val + l.val, by omega⟩ g ⟨8 * h.val + r.val, by omega⟩))
    (m : Fin 192) (i : Fin 4) (l : Fin 128) :
    kernelRun0_A.sl.r_51 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0
      (ix2 m ⟨i.val * 128 + l.val, by omega⟩) = proj (normed x0 x1 m) P S ⟨(4 * 4 + i.val) * 128 + l.val, by omega⟩ := by
  unfold kernelRun0_A.sl.r_51
  refine loop_5 (h0 := ?_) (hn := ?_) (x := normed x0 x1) (P := P) (S := S) (hx := ?_) (hS := ?_) (hP := ?_) ..
  · exact zero4
  · rfl
  · intro i k
    exact rows_at ..
  · rw [harg6.read_unread]; exact hS
  · rw [View.read_writes_whole]; exact hP

/-- The value of the loop of the first four key heads. -/
theorem value_6 (P : IVec ⟨3, ![640, 160, 16]⟩ 8) (S : FVec Ideal ⟨2, ![640, 160]⟩ .bf16)
    (hS : ∀ g n, x4 (ix2 g n) = S (ix2 n g))
    (hP : ∀ (g : Fin 160) (h : Fin 2) (t : Fin 5) (r : Fin 8) (l : Fin 128),
      (Memref.whole main_v6).view.read (Elt Ideal) fh1 (ix5 g h t r l)
        = P (ix3 ⟨128 * t.val + l.val, by omega⟩ g ⟨8 * h.val + r.val, by omega⟩))
    (m : Fin 192) (i : Fin 4) (l : Fin 128) :
    kernelRun0_A.sl.r_57 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1
      (ix2 m ⟨i.val * 128 + l.val, by omega⟩) = proj (normed x0 x1 m) P S ⟨i.val * 128 + l.val, by omega⟩ := by
  unfold kernelRun0_A.sl.r_57
  refine loop_6 (h0 := ?_) (hn := ?_) (x := normed x0 x1) (P := P) (S := S) (hx := ?_) (hS := ?_) (hP := ?_) ..
  · exact zero4
  · rfl
  · intro i k
    exact rows_at ..
  · rw [harg7.read_unread]; exact hS
  · rw [View.read_writes_whole]; exact hP

/-- The value of the loop of the fifth key head. -/
theorem value_7 (P : IVec ⟨3, ![640, 160, 16]⟩ 8) (S : FVec Ideal ⟨2, ![640, 160]⟩ .bf16)
    (hS : ∀ g n, x4 (ix2 g n) = S (ix2 n g))
    (hP : ∀ (g : Fin 160) (h : Fin 2) (t : Fin 5) (r : Fin 8) (l : Fin 128),
      (Memref.whole main_v6).view.read (Elt Ideal) fh1 (ix5 g h t r l)
        = P (ix3 ⟨128 * t.val + l.val, by omega⟩ g ⟨8 * h.val + r.val, by omega⟩))
    (m : Fin 192) (l : Fin 128) :
    kernelRun0_A.sl.r_62 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1
      (ix2 m l) = proj (normed x0 x1 m) P S ⟨4 * 128 + l.val, by omega⟩ := by
  unfold kernelRun0_A.sl.r_62
  refine loop_7 (h0 := ?_) (hn := ?_) (x := normed x0 x1) (P := P) (S := S) (hx := ?_) (hS := ?_) (hP := ?_) ..
  · exact zero1
  · rfl
  · intro i k
    exact rows_at ..
  · rw [harg7.read_unread]; exact hS
  · rw [View.read_writes_whole]; exact hP

/-- The value of the loop of the first four value heads. -/
theorem value_8 (P : IVec ⟨3, ![640, 160, 16]⟩ 8) (S : FVec Ideal ⟨2, ![640, 160]⟩ .bf16)
    (hS : ∀ g n, x5 (ix2 g n) = S (ix2 n g))
    (hP : ∀ (g : Fin 160) (h : Fin 2) (t : Fin 5) (r : Fin 8) (l : Fin 128),
      (Memref.whole main_v8).view.read (Elt Ideal) fh2 (ix5 g h t r l)
        = P (ix3 ⟨128 * t.val + l.val, by omega⟩ g ⟨8 * h.val + r.val, by omega⟩))
    (m : Fin 192) (i : Fin 4) (l : Fin 128) :
    kernelRun0_A.sl.r_63 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2
      (ix2 m ⟨i.val * 128 + l.val, by omega⟩) = proj (normed x0 x1 m) P S ⟨i.val * 128 + l.val, by omega⟩ := by
  unfold kernelRun0_A.sl.r_63
  refine loop_8 (h0 := ?_) (hn := ?_) (x := normed x0 x1) (P := P) (S := S) (hx := ?_) (hS := ?_) (hP := ?_) ..
  · exact zero4
  · rfl
  · intro i k
    exact rows_at ..
  · rw [harg8.read_unread]; exact hS
  · rw [View.read_writes_whole]; exact hP

/-- The value of the loop of the fifth value head. -/
theorem last_value (P : IVec ⟨3, ![640, 160, 16]⟩ 8) (S : FVec Ideal ⟨2, ![640, 160]⟩ .bf16)
    (hS : ∀ g n, x5 (ix2 g n) = S (ix2 n g))
    (hP : ∀ (g : Fin 160) (h : Fin 2) (t : Fin 5) (r : Fin 8) (l : Fin 128),
      (Memref.whole main_v8).view.read (Elt Ideal) fh2 (ix5 g h t r l)
        = P (ix3 ⟨128 * t.val + l.val, by omega⟩ g ⟨8 * h.val + r.val, by omega⟩))
    (n : ℕ) (hn : n = 20) (m : Fin 192) (l : Fin 128) :
    st_k0_t9 (F := Ideal) Variants.none c none arg0 harg0 arg1 harg1 arg2 harg2 (Memref.whole main_v4)
      (Memref.isWhole_whole _) (Memref.whole main_v6) (Memref.isWhole_whole _) (Memref.whole main_v8)
      (Memref.isWhole_whole _) arg6 harg6 arg7 harg7 arg8 harg8 arg9 harg9 arg10 harg10 arg11 harg11 arg12 harg12
      arg13 harg13 arg14 harg14 arg15 harg15 arg16 harg16 arg17 harg17 cc0_scratch6 (harg8.unread x5)
      (arg14.view.writes (Elt Ideal) arg14.view.junk
        [⟨Rect.whole S160x2x5x8x128, kernelRun0_A.sl.dma0_2 c fh2⟩])
      (arg15.view.writes (Elt Ideal) arg15.view.junk (kernelRun0_A.sl.HS3_20 c arg0 harg0 arg1 harg1 x0 x1))
      k0_pay2 n (ix2 m l) = proj (normed x0 x1 m) P S ⟨4 * 128 + l.val, by omega⟩ := by
  refine loop_9 (h0 := ?_) (hn := hn) (x := normed x0 x1) (P := P) (S := S) (hx := ?_) (hS := ?_) (hP := ?_) ..
  · exact zero1
  · intro i k
    exact rows_at ..
  · rw [harg8.read_unread]; exact hS
  · rw [View.read_writes_whole]; exact hP

end Cert.KernelIdeal.Layer

end
-- ==== Proof.Outputs.lean ====
/- The kernel's three results after its body, read at an index. -/
module

public import proofs.«01_k».proof.Proof.Body

@[expose] public section

set_option maxRecDepth 16384

noncomputable section

namespace Cert.KernelIdeal.Layer

open Idealize.ShloMosaic Idealize.ShloMosaic.Tactic Cert.Layer
open Cert.KernelIdeal Cert.KernelIdeal.Gen

/-- One head of a block of four, at an index. -/
theorem head_apply (y : FVec Ideal S192x512 .f32) (j : Fin 4) (o : ℕ) (ho : o = j.val * 128)
    (hs : S192x512.Slices ![0, o] S192x128) (i : Fin 192) (l : Fin 128) :
    extractStridedSlice S192x128 ![0, o] y hs (ix2 i l) = y (ix2 i ⟨j.val * 128 + l.val, by omega⟩) := by
  subst ho
  pointwise
  all_goals exact congrArg y (by idx_ext)

/-- A head whose elements are known, turned. -/
theorem turned (t C S : FVec Ideal S192x128 .f32) (pos : IVec ⟨2, ![192, 1]⟩ 32)
    (hC : ∀ i l, C (ix2 i l) = Ideal.cos (angle pos i l)) (hS : ∀ i l, S (ix2 i l) = signedSin pos i l)
    (i : Fin 192) (q : Fin 128 → EReal) (ht : ∀ l, t (ix2 i l) = q l) (l : Fin 128) :
    turn t C S (ix3 0 i l) = rotate pos i q l :=
  (turn_apply t C S pos hC hS i l).trans (congrArg (fun q => rotate pos i q l) (funext ht))

/-- A head whose elements are known, stored unturned. -/
theorem plain (t : FVec Ideal S192x128 .f32) (i : Fin 192) (l : Fin 128) :
    shapeCast S1x192x128 (truncf (F := Ideal) .bf16 t bitsLt_bf16_f32) shapeCasts_S192x128_S1x192x128 (ix3 0 i l) = t (ix2 i l) := by
  pointwise

/-- A stored head agrees with the whole result where it lies. -/
theorem stored {n : ℕ} (g : Fin n → Fin 192 → Fin 128 → EReal) (h : ℕ) (hh : h < n)
    (inb : ∀ a, (![h, 0, 0] : Fin 3 → ℕ) a + S1x192x128.size a ≤ (⟨3, ![n, 192, 128]⟩ : Shape).size a)
    (w : Vec Ideal S1x192x128 .bf16) (hw : ∀ i l, w (ix3 0 i l) = g ⟨h, hh⟩ i l) (x : S1x192x128.Idx) :
    w x = (fun y : (⟨3, ![n, 192, 128]⟩ : Shape).Idx => (g (y 0) (y 1) (y 2) : Elt Ideal .bf16))
      ((Rect.unit (s := ⟨3, ![n, 192, 128]⟩) ![h, 0, 0] S1x192x128.size inb).emb x) := by
  idx_vars x
  obtain rfl : x0 = 0 := Subsingleton.elim _ _
  rw [hw]
  have e : ∀ (a : Fin n) (b : Fin 192) (c : Fin 128), (⟨h, hh⟩ : Fin n) = a → x1 = b → x2 = c →
      g ⟨h, hh⟩ x1 x2 = g a b c := by
    rintro _ _ _ rfl rfl rfl
    rfl
  refine e _ _ _ (Fin.ext ?_) (Fin.ext ?_) (Fin.ext ?_)
  · show h = h + 1 * 0
    omega
  · show x1.val = 0 + 1 * x1.val
    omega
  · show x2.val = 0 + 1 * x2.val
    omega

variable (c : Dev nD) (arg0 : Memref sig .tc .vmem S192x5120 .bf16) (harg0 : arg0.IsWhole)
  (arg1 : Memref sig .tc .vmem S40x128 .bf16) (harg1 : arg1.IsWhole)
  (arg2 : Memref sig .tc .vmem S1x192 .i32) (harg2 : arg2.IsWhole)
  (arg6 : Memref sig .tc .vmem S160x2560 .bf16) (harg6 : arg6.IsWhole)
  (arg7 : Memref sig .tc .vmem S160x640 .bf16) (harg7 : arg7.IsWhole)
  (arg8 : Memref sig .tc .vmem S160x640 .bf16) (harg8 : arg8.IsWhole)
  (arg9 : Memref sig .tc .vmem S20x192x128 .bf16) (harg9 : arg9.IsWhole)
  (arg10 : Memref sig .tc .vmem S5x192x128 .bf16) (harg10 : arg10.IsWhole)
  (arg11 : Memref sig .tc .vmem S5x192x128 .bf16) (harg11 : arg11.IsWhole)
  (arg12 : Memref sig .tc .vmem S160x2x20x8x128 .i8) (harg12 : arg12.IsWhole)
  (arg13 : Memref sig .tc .vmem S160x2x5x8x128 .i8) (harg13 : arg13.IsWhole)
  (arg14 : Memref sig .tc .vmem S160x2x5x8x128 .i8) (harg14 : arg14.IsWhole)
  (arg15 : Memref sig .tc .vmem S192x5120 .bf16) (harg15 : arg15.IsWhole)
  (arg16 : Memref sig .tc .vmem S192x128 .f32) (harg16 : arg16.IsWhole)
  (arg17 : Memref sig .tc .vmem S192x128 .f32) (harg17 : arg17.IsWhole)
  (x0 : Vec Ideal S192x5120 .bf16)
  (x1 : Vec Ideal S40x128 .bf16)
  (x2 : Vec Ideal S1x192 .i32)
  (x3 : Vec Ideal S160x2560 .bf16)
  (x4 : Vec Ideal S160x640 .bf16)
  (x5 : Vec Ideal S160x640 .bf16)
  (fh0 : HbBuf0 (F := Ideal) c hbM0_0)
  (fh1 : HbBuf0 (F := Ideal) c hbM0_1)
  (fh2 : HbBuf0 (F := Ideal) c hbM0_2)

/-- The queries after the body. -/
theorem queries_apply (P : IVec ⟨3, ![2560, 160, 16]⟩ 8) (S : FVec Ideal ⟨2, ![2560, 160]⟩ .bf16)
    (hS : ∀ g n, x3 (ix2 g n) = S (ix2 n g))
    (hP : ∀ (g : Fin 160) (h : Fin 2) (t : Fin 20) (r : Fin 8) (l : Fin 128),
      (Memref.whole main_v4).view.read (Elt Ideal) fh0 (ix5 g h t r l)
        = P (ix3 ⟨128 * t.val + l.val, by omega⟩ g ⟨8 * h.val + r.val, by omega⟩))
    (pos : IVec ⟨2, ![192, 1]⟩ 32) (hpos : ∀ i, x2 (ix2 0 i) = pos (ix2 i 0))
    (h : Fin 20) (i : Fin 192) (l : Fin 128) :
    out0_A_6 (F := Ideal) c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2 (ix3 h i l)
      = rotate pos i (fun l => proj (normed x0 x1 i) P S ⟨h.val * 128 + l.val, by omega⟩) l := by
  let g : Fin 20 → Fin 192 → Fin 128 → EReal := fun h i l => rotate pos i (fun l => proj (normed x0 x1 i) P S ⟨h.val * 128 + l.val, by omega⟩) l
  unfold out0_A_6
  rw [View.read_writes_eq_canon _ _ _ (cover0_A_6 (F := Ideal) c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)]
  refine View.canon_apply_of_pieces (Val := Elt Ideal) (e := .bf16)
    (fun y : S20x192x128.Idx => (g (y 0) (y 1) (y 2) : Elt Ideal .bf16)) _ ?_ (ix3 h i l)
    (cover0_A_6 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2 _)
  unfold kernelRun0_A
  dsimp only
  unfold kernelRun0_A.sl.H6_20
  refine List.forall_mem_cons.mpr ⟨?_, ?_⟩
  · refine stored g 19 (by decide) inb_S20x192x128_S1x192x128_19_0_0 _ fun i l => ?_
    exact turned (extractStridedSlice S192x128 ![0, 384] (kernelRun0_A.sl.r_51 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_384_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 3 _ rfl _ i l).trans (value_5 (P := P) (S := S) (hS := hS) (hP := hP) ..)) l
  refine List.forall_mem_cons.mpr ⟨?_, ?_⟩
  · refine stored g 18 (by decide) inb_S20x192x128_S1x192x128_18_0_0 _ fun i l => ?_
    exact turned (extractStridedSlice S192x128 ![0, 256] (kernelRun0_A.sl.r_51 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_256_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 2 _ rfl _ i l).trans (value_5 (P := P) (S := S) (hS := hS) (hP := hP) ..)) l
  refine List.forall_mem_cons.mpr ⟨?_, ?_⟩
  · refine stored g 17 (by decide) inb_S20x192x128_S1x192x128_17_0_0 _ fun i l => ?_
    exact turned (extractStridedSlice S192x128 ![0, 128] (kernelRun0_A.sl.r_51 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_128_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 1 _ rfl _ i l).trans (value_5 (P := P) (S := S) (hS := hS) (hP := hP) ..)) l
  refine List.forall_mem_cons.mpr ⟨?_, ?_⟩
  · refine stored g 16 (by decide) inb_S20x192x128_S1x192x128_16_0_0 _ fun i l => ?_
    exact turned (extractStridedSlice S192x128 ![0, 0] (kernelRun0_A.sl.r_51 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_0_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 0 _ rfl _ i l).trans (value_5 (P := P) (S := S) (hS := hS) (hP := hP) ..)) l
  refine List.forall_mem_cons.mpr ⟨?_, ?_⟩
  · refine stored g 15 (by decide) inb_S20x192x128_S1x192x128_15_0_0 _ fun i l => ?_
    exact turned (extractStridedSlice S192x128 ![0, 384] (kernelRun0_A.sl.r_43 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_384_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 3 _ rfl _ i l).trans (value_4 (P := P) (S := S) (hS := hS) (hP := hP) ..)) l
  refine List.forall_mem_cons.mpr ⟨?_, ?_⟩
  · refine stored g 14 (by decide) inb_S20x192x128_S1x192x128_14_0_0 _ fun i l => ?_
    exact turned (extractStridedSlice S192x128 ![0, 256] (kernelRun0_A.sl.r_43 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_256_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 2 _ rfl _ i l).trans (value_4 (P := P) (S := S) (hS := hS) (hP := hP) ..)) l
  refine List.forall_mem_cons.mpr ⟨?_, ?_⟩
  · refine stored g 13 (by decide) inb_S20x192x128_S1x192x128_13_0_0 _ fun i l => ?_
    exact turned (extractStridedSlice S192x128 ![0, 128] (kernelRun0_A.sl.r_43 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_128_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 1 _ rfl _ i l).trans (value_4 (P := P) (S := S) (hS := hS) (hP := hP) ..)) l
  refine List.forall_mem_cons.mpr ⟨?_, ?_⟩
  · refine stored g 12 (by decide) inb_S20x192x128_S1x192x128_12_0_0 _ fun i l => ?_
    exact turned (extractStridedSlice S192x128 ![0, 0] (kernelRun0_A.sl.r_43 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_0_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 0 _ rfl _ i l).trans (value_4 (P := P) (S := S) (hS := hS) (hP := hP) ..)) l
  refine List.forall_mem_cons.mpr ⟨?_, ?_⟩
  · refine stored g 11 (by decide) inb_S20x192x128_S1x192x128_11_0_0 _ fun i l => ?_
    exact turned (extractStridedSlice S192x128 ![0, 384] (kernelRun0_A.sl.r_37 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_384_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 3 _ rfl _ i l).trans (value_3 (P := P) (S := S) (hS := hS) (hP := hP) ..)) l
  refine List.forall_mem_cons.mpr ⟨?_, ?_⟩
  · refine stored g 10 (by decide) inb_S20x192x128_S1x192x128_10_0_0 _ fun i l => ?_
    exact turned (extractStridedSlice S192x128 ![0, 256] (kernelRun0_A.sl.r_37 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_256_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 2 _ rfl _ i l).trans (value_3 (P := P) (S := S) (hS := hS) (hP := hP) ..)) l
  refine List.forall_mem_cons.mpr ⟨?_, ?_⟩
  · refine stored g 9 (by decide) inb_S20x192x128_S1x192x128_9_0_0 _ fun i l => ?_
    exact turned (extractStridedSlice S192x128 ![0, 128] (kernelRun0_A.sl.r_37 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_128_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 1 _ rfl _ i l).trans (value_3 (P := P) (S := S) (hS := hS) (hP := hP) ..)) l
  refine List.forall_mem_cons.mpr ⟨?_, ?_⟩
  · refine stored g 8 (by decide) inb_S20x192x128_S1x192x128_8_0_0 _ fun i l => ?_
    exact turned (extractStridedSlice S192x128 ![0, 0] (kernelRun0_A.sl.r_37 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 fh0)
        slices_S192x512_o0_0_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 0 _ rfl _ i l).trans (value_3 (P := P) (S := S) (hS := hS) (hP := hP) ..)) l
  refine List.forall_mem_cons.mpr ⟨?_, ?_⟩
  · refine stored g 7 (by decide) inb_S20x192x128_S1x192x128_7_0_0 _ fun i l => ?_
    exact turned (extractStridedSlice S192x128 ![0, 384] (kernelRun0_A.sl.r_29 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_384_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 3 _ rfl _ i l).trans (value_2 (P := P) (S := S) (hS := hS) (hP := hP) ..)) l
  refine List.forall_mem_cons.mpr ⟨?_, ?_⟩
  · refine stored g 6 (by decide) inb_S20x192x128_S1x192x128_6_0_0 _ fun i l => ?_
    exact turned (extractStridedSlice S192x128 ![0, 256] (kernelRun0_A.sl.r_29 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_256_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 2 _ rfl _ i l).trans (value_2 (P := P) (S := S) (hS := hS) (hP := hP) ..)) l
  refine List.forall_mem_cons.mpr ⟨?_, ?_⟩
  · refine stored g 5 (by decide) inb_S20x192x128_S1x192x128_5_0_0 _ fun i l => ?_
    exact turned (extractStridedSlice S192x128 ![0, 128] (kernelRun0_A.sl.r_29 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_128_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 1 _ rfl _ i l).trans (value_2 (P := P) (S := S) (hS := hS) (hP := hP) ..)) l
  refine List.forall_mem_cons.mpr ⟨?_, ?_⟩
  · refine stored g 4 (by decide) inb_S20x192x128_S1x192x128_4_0_0 _ fun i l => ?_
    exact turned (extractStridedSlice S192x128 ![0, 0] (kernelRun0_A.sl.r_29 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_0_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 0 _ rfl _ i l).trans (value_2 (P := P) (S := S) (hS := hS) (hP := hP) ..)) l
  refine List.forall_mem_cons.mpr ⟨?_, ?_⟩
  · refine stored g 3 (by decide) inb_S20x192x128_S1x192x128_3_0_0 _ fun i l => ?_
    exact turned (extractStridedSlice S192x128 ![0, 384] (kernelRun0_A.sl.r_24 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_384_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 3 _ rfl _ i l).trans (value_1 (P := P) (S := S) (hS := hS) (hP := hP) ..)) l
  refine List.forall_mem_cons.mpr ⟨?_, ?_⟩
  · refine stored g 2 (by decide) inb_S20x192x128_S1x192x128_2_0_0 _ fun i l => ?_
    exact turned (extractStridedSlice S192x128 ![0, 256] (kernelRun0_A.sl.r_24 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_256_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 2 _ rfl _ i l).trans (value_1 (P := P) (S := S) (hS := hS) (hP := hP) ..)) l
  refine List.forall_mem_cons.mpr ⟨?_, ?_⟩
  · refine stored g 1 (by decide) inb_S20x192x128_S1x192x128_1_0_0 _ fun i l => ?_
    exact turned (extractStridedSlice S192x128 ![0, 128] (kernelRun0_A.sl.r_24 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_128_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 1 _ rfl _ i l).trans (value_1 (P := P) (S := S) (hS := hS) (hP := hP) ..)) l
  refine List.forall_mem_cons.mpr ⟨?_, ?_⟩
  · refine stored g 0 (by decide) inb_S20x192x128_S1x192x128_0_0_0 _ fun i l => ?_
    exact turned (extractStridedSlice S192x128 ![0, 0] (kernelRun0_A.sl.r_24 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x3 fh0)
        slices_S192x512_o0_0_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 0 _ rfl _ i l).trans (value_1 (P := P) (S := S) (hS := hS) (hP := hP) ..)) l
  exact fun _ h => absurd h List.not_mem_nil

/-- The keys after the body. -/
theorem keys_apply (P : IVec ⟨3, ![640, 160, 16]⟩ 8) (S : FVec Ideal ⟨2, ![640, 160]⟩ .bf16)
    (hS : ∀ g n, x4 (ix2 g n) = S (ix2 n g))
    (hP : ∀ (g : Fin 160) (h : Fin 2) (t : Fin 5) (r : Fin 8) (l : Fin 128),
      (Memref.whole main_v6).view.read (Elt Ideal) fh1 (ix5 g h t r l)
        = P (ix3 ⟨128 * t.val + l.val, by omega⟩ g ⟨8 * h.val + r.val, by omega⟩))
    (pos : IVec ⟨2, ![192, 1]⟩ 32) (hpos : ∀ i, x2 (ix2 0 i) = pos (ix2 i 0))
    (h : Fin 5) (i : Fin 192) (l : Fin 128) :
    out0_A_7 (F := Ideal) c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2 (ix3 h i l)
      = rotate pos i (fun l => proj (normed x0 x1 i) P S ⟨h.val * 128 + l.val, by omega⟩) l := by
  let g : Fin 5 → Fin 192 → Fin 128 → EReal := fun h i l => rotate pos i (fun l => proj (normed x0 x1 i) P S ⟨h.val * 128 + l.val, by omega⟩) l
  unfold out0_A_7
  rw [View.read_writes_eq_canon _ _ _ (cover0_A_7 (F := Ideal) c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)]
  refine View.canon_apply_of_pieces (Val := Elt Ideal) (e := .bf16)
    (fun y : S5x192x128.Idx => (g (y 0) (y 1) (y 2) : Elt Ideal .bf16)) _ ?_ (ix3 h i l)
    (cover0_A_7 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2 _)
  unfold kernelRun0_A
  dsimp only
  unfold kernelRun0_A.sl.H7_5
  refine List.forall_mem_cons.mpr ⟨?_, ?_⟩
  · refine stored g 4 (by decide) inb_S5x192x128_S1x192x128_4_0_0 _ fun i l => ?_
    exact turned (kernelRun0_A.sl.r_62 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => value_7 (P := P) (S := S) (hS := hS) (hP := hP) ..) l
  refine List.forall_mem_cons.mpr ⟨?_, ?_⟩
  · refine stored g 3 (by decide) inb_S5x192x128_S1x192x128_3_0_0 _ fun i l => ?_
    exact turned (extractStridedSlice S192x128 ![0, 384] (kernelRun0_A.sl.r_57 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1)
        slices_S192x512_o0_384_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 3 _ rfl _ i l).trans (value_6 (P := P) (S := S) (hS := hS) (hP := hP) ..)) l
  refine List.forall_mem_cons.mpr ⟨?_, ?_⟩
  · refine stored g 2 (by decide) inb_S5x192x128_S1x192x128_2_0_0 _ fun i l => ?_
    exact turned (extractStridedSlice S192x128 ![0, 256] (kernelRun0_A.sl.r_57 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1)
        slices_S192x512_o0_256_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 2 _ rfl _ i l).trans (value_6 (P := P) (S := S) (hS := hS) (hP := hP) ..)) l
  refine List.forall_mem_cons.mpr ⟨?_, ?_⟩
  · refine stored g 1 (by decide) inb_S5x192x128_S1x192x128_1_0_0 _ fun i l => ?_
    exact turned (extractStridedSlice S192x128 ![0, 128] (kernelRun0_A.sl.r_57 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1)
        slices_S192x512_o0_128_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 1 _ rfl _ i l).trans (value_6 (P := P) (S := S) (hS := hS) (hP := hP) ..)) l
  refine List.forall_mem_cons.mpr ⟨?_, ?_⟩
  · refine stored g 0 (by decide) inb_S5x192x128_S1x192x128_0_0_0 _ fun i l => ?_
    exact turned (extractStridedSlice S192x128 ![0, 0] (kernelRun0_A.sl.r_57 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 fh0 fh1)
        slices_S192x512_o0_0_S192x128)
      (kernelRun0_A.sl.v715 c arg2 harg2 arg16 x2) (kernelRun0_A.sl.v739 c arg2 harg2 arg17 x2) pos
      (cos_read c arg2 harg2 arg16 x2 pos hpos) (sin_read c arg2 harg2 arg17 x2 pos hpos) i _ (fun l => (head_apply _ 0 _ rfl _ i l).trans (value_6 (P := P) (S := S) (hS := hS) (hP := hP) ..)) l
  exact fun _ h => absurd h List.not_mem_nil

/-- The values after the body. -/
theorem values_apply (P : IVec ⟨3, ![640, 160, 16]⟩ 8) (S : FVec Ideal ⟨2, ![640, 160]⟩ .bf16)
    (hS : ∀ g n, x5 (ix2 g n) = S (ix2 n g))
    (hP : ∀ (g : Fin 160) (h : Fin 2) (t : Fin 5) (r : Fin 8) (l : Fin 128),
      (Memref.whole main_v8).view.read (Elt Ideal) fh2 (ix5 g h t r l)
        = P (ix3 ⟨128 * t.val + l.val, by omega⟩ g ⟨8 * h.val + r.val, by omega⟩))
    (h : Fin 5) (i : Fin 192) (l : Fin 128) :
    out0_A_8 (F := Ideal) c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2 (ix3 h i l)
      = proj (normed x0 x1 i) P S ⟨h.val * 128 + l.val, by omega⟩ := by
  let g : Fin 5 → Fin 192 → Fin 128 → EReal := fun h i l => proj (normed x0 x1 i) P S ⟨h.val * 128 + l.val, by omega⟩
  unfold out0_A_8
  rw [View.read_writes_eq_canon _ _ _ (cover0_A_8 (F := Ideal) c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)]
  refine View.canon_apply_of_pieces (Val := Elt Ideal) (e := .bf16)
    (fun y : S5x192x128.Idx => (g (y 0) (y 1) (y 2) : Elt Ideal .bf16)) _ ?_ (ix3 h i l)
    (cover0_A_8 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2 _)
  unfold kernelRun0_A
  dsimp only
  refine List.forall_mem_cons.mpr ⟨?_, ?_⟩
  · refine stored g 4 (by decide) inb_S5x192x128_S1x192x128_4_0_0 _ fun i l => ?_
    exact (plain _ i l).trans (last_value (hn := rfl) (P := P) (S := S) (hS := hS) (hP := hP) ..)
  refine List.forall_mem_cons.mpr ⟨?_, ?_⟩
  · refine stored g 3 (by decide) inb_S5x192x128_S1x192x128_3_0_0 _ fun i l => ?_
    exact (plain (extractStridedSlice S192x128 ![0, 384] (kernelRun0_A.sl.r_63 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)
        slices_S192x512_o0_384_S192x128) i l).trans ((head_apply _ 3 _ rfl _ i l).trans (value_8 (P := P) (S := S) (hS := hS) (hP := hP) ..))
  refine List.forall_mem_cons.mpr ⟨?_, ?_⟩
  · refine stored g 2 (by decide) inb_S5x192x128_S1x192x128_2_0_0 _ fun i l => ?_
    exact (plain (extractStridedSlice S192x128 ![0, 256] (kernelRun0_A.sl.r_63 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)
        slices_S192x512_o0_256_S192x128) i l).trans ((head_apply _ 2 _ rfl _ i l).trans (value_8 (P := P) (S := S) (hS := hS) (hP := hP) ..))
  refine List.forall_mem_cons.mpr ⟨?_, ?_⟩
  · refine stored g 1 (by decide) inb_S5x192x128_S1x192x128_1_0_0 _ fun i l => ?_
    exact (plain (extractStridedSlice S192x128 ![0, 128] (kernelRun0_A.sl.r_63 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)
        slices_S192x512_o0_128_S192x128) i l).trans ((head_apply _ 1 _ rfl _ i l).trans (value_8 (P := P) (S := S) (hS := hS) (hP := hP) ..))
  refine List.forall_mem_cons.mpr ⟨?_, ?_⟩
  · refine stored g 0 (by decide) inb_S5x192x128_S1x192x128_0_0_0 _ fun i l => ?_
    exact (plain (extractStridedSlice S192x128 ![0, 0] (kernelRun0_A.sl.r_63 c arg0 harg0 arg1 harg1 arg2 harg2 arg6 harg6 arg7 harg7 arg8 harg8 arg9 harg9 arg10 harg10 arg11 harg11 arg12 harg12 arg13 harg13 arg14 harg14 arg15 harg15 arg16 harg16 arg17 harg17 x0 x1 x2 x3 x4 x5 fh0 fh1 fh2)
        slices_S192x512_o0_0_S192x128) i l).trans ((head_apply _ 0 _ rfl _ i l).trans (value_8 (P := P) (S := S) (hS := hS) (hP := hP) ..))
  exact fun _ h => absurd h List.not_mem_nil

end Cert.KernelIdeal.Layer

end
-- ==== Proof.Arrays.lean ====
/- The kernel's three result arrays after the launch, as functions of the nine arguments. -/
module

public import proofs.«01_k».proof.Proof.Outputs
public import proofs.«01_k».proof.Proof.Gen.KernelIdeal.Value
public import Idealize.ShloMosaic.Lib.Pipeline.ValueKit.Point
public import Idealize.ShloMosaic.Lib.Claim

@[expose] public section

set_option maxRecDepth 16384

noncomputable section

namespace Cert.KernelIdeal.Layer

open Idealize.ShloMosaic Idealize.ShloMosaic.Tactic Idealize.ShloMosaic.TcCoe Cert.Layer
open Idealize.ShloMosaic.Pipeline (Dat)
open Cert.KernelIdeal Cert.KernelIdeal.Gen

variable (m : (ℓ : Loc nD τ sig) → Buf (Elt Ideal) ℓ) (c : Dev nD)

/-- Input window 0 is its whole array. -/
theorem block_0 : ∀ a : Fin 2, win0_0.index t0_0 a = 0 := by
  decide +kernel

/-- Input window 1 is its whole array. -/
theorem block_1 : ∀ a : Fin 2, win0_1.index t0_0 a = 0 := by
  decide +kernel

/-- Input window 2 is its whole array. -/
theorem block_2 : ∀ a : Fin 2, win0_2.index t0_0 a = 0 := by
  decide +kernel

/-- Input window 3 is its whole array. -/
theorem block_3 : ∀ a : Fin 2, win0_3.index t0_0 a = 0 := by
  decide +kernel

/-- Input window 4 is its whole array. -/
theorem block_4 : ∀ a : Fin 2, win0_4.index t0_0 a = 0 := by
  decide +kernel

/-- Input window 5 is its whole array. -/
theorem block_5 : ∀ a : Fin 2, win0_5.index t0_0 a = 0 := by
  decide +kernel

/-- The rows the body reads are the argument's. -/
theorem x_read (i : Fin 192) (k : Fin 5120) :
    iblk m c 0 t0_0 (ix2 i k) = m ((c : Thread nD τ).loc main_arg0) (ix3 i 0 k) := by
  rw [show iblk m c 0 t0_0 (ix2 i k) = V m c main_v0 (ix2 i k) by blk_ext [iblk, block_0]]
  entry_read
  pointwise

/-- The norm's weights the body reads are the argument's, 128 to a row. -/
theorem w_read (a : Fin 40) (b : Fin 128) :
    iblk m c 1 t0_0 (ix2 a b) = m ((c : Thread nD τ).loc main_arg1) (ix1 ⟨a.val * 128 + b.val, by omega⟩) := by
  rw [show iblk m c 1 t0_0 (ix2 a b) = V m c main_v1 (ix2 a b) by blk_ext [iblk, block_1]]
  entry_read
  pointwise

/-- The positions the body reads are the argument's. -/
theorem pos_read (i : Fin 192) :
    iblk m c 2 t0_0 (ix2 0 i) = m ((c : Thread nD τ).loc main_arg2) (ix2 i 0) := by
  rw [show iblk m c 2 t0_0 (ix2 0 i) = V m c main_v2 (ix2 0 i) by blk_ext [iblk, block_2]]
  entry_read
  pointwise

/-- The queries' scales the body reads are the argument's, transposed. -/
theorem sq_read (g : Fin 160) (n : Fin 2560) :
    iblk m c 3 t0_0 (ix2 g n) = m ((c : Thread nD τ).loc main_arg4) (ix2 n g) := by
  rw [show iblk m c 3 t0_0 (ix2 g n) = V m c main_v9 (ix2 g n) by blk_ext [iblk, block_3]]
  entry_read
  pointwise

/-- The queries' codes the body copies are the argument's, laid out by group, half, head, byte and lane. -/
theorem q_read (g : Fin 160) (h : Fin 2) (t : Fin 20) (r : Fin 8) (l : Fin 128) :
    (Memref.whole main_v4).view.read (Elt Ideal) (V m c main_v4) (ix5 g h t r l)
      = m ((c : Thread nD τ).loc main_arg3)
          (ix3 ⟨128 * t.val + l.val, by omega⟩ g ⟨8 * h.val + r.val, by omega⟩) := by
  show V m c main_v4 (ix5 g h t r l) = _
  entry_read
  pointwise
  have e : (ix3 ⟨t.val * 128 + l.val, by omega⟩ g ⟨h.val * 8 + r.val, by omega⟩ : S2560x160x16.Idx)
      = ix3 ⟨128 * t.val + l.val, by omega⟩ g ⟨8 * h.val + r.val, by omega⟩ := by
    rw [show (⟨t.val * 128 + l.val, by omega⟩ : Fin 2560) = ⟨128 * t.val + l.val, by omega⟩ from Fin.ext (by simp only; omega),
      show (⟨h.val * 8 + r.val, by omega⟩ : Fin 16) = ⟨8 * h.val + r.val, by omega⟩ from Fin.ext (by simp only; omega)]
  exact congrArg (m ((c : Thread nD τ).loc main_arg3)) e

/-- The keys' scales the body reads are the argument's, transposed. -/
theorem sk_read (g : Fin 160) (n : Fin 640) :
    iblk m c 4 t0_0 (ix2 g n) = m ((c : Thread nD τ).loc main_arg6) (ix2 n g) := by
  rw [show iblk m c 4 t0_0 (ix2 g n) = V m c main_v10 (ix2 g n) by blk_ext [iblk, block_4]]
  entry_read
  pointwise

/-- The keys' codes the body copies are the argument's, laid out by group, half, head, byte and lane. -/
theorem k_read (g : Fin 160) (h : Fin 2) (t : Fin 5) (r : Fin 8) (l : Fin 128) :
    (Memref.whole main_v6).view.read (Elt Ideal) (V m c main_v6) (ix5 g h t r l)
      = m ((c : Thread nD τ).loc main_arg5)
          (ix3 ⟨128 * t.val + l.val, by omega⟩ g ⟨8 * h.val + r.val, by omega⟩) := by
  show V m c main_v6 (ix5 g h t r l) = _
  entry_read
  pointwise
  have e : (ix3 ⟨t.val * 128 + l.val, by omega⟩ g ⟨h.val * 8 + r.val, by omega⟩ : S640x160x16.Idx)
      = ix3 ⟨128 * t.val + l.val, by omega⟩ g ⟨8 * h.val + r.val, by omega⟩ := by
    rw [show (⟨t.val * 128 + l.val, by omega⟩ : Fin 640) = ⟨128 * t.val + l.val, by omega⟩ from Fin.ext (by simp only; omega),
      show (⟨h.val * 8 + r.val, by omega⟩ : Fin 16) = ⟨8 * h.val + r.val, by omega⟩ from Fin.ext (by simp only; omega)]
  exact congrArg (m ((c : Thread nD τ).loc main_arg5)) e

/-- The values' scales the body reads are the argument's, transposed. -/
theorem sv_read (g : Fin 160) (n : Fin 640) :
    iblk m c 5 t0_0 (ix2 g n) = m ((c : Thread nD τ).loc main_arg8) (ix2 n g) := by
  rw [show iblk m c 5 t0_0 (ix2 g n) = V m c main_v11 (ix2 g n) by blk_ext [iblk, block_5]]
  entry_read
  pointwise

/-- The values' codes the body copies are the argument's, laid out by group, half, head, byte and lane. -/
theorem v_read (g : Fin 160) (h : Fin 2) (t : Fin 5) (r : Fin 8) (l : Fin 128) :
    (Memref.whole main_v8).view.read (Elt Ideal) (V m c main_v8) (ix5 g h t r l)
      = m ((c : Thread nD τ).loc main_arg7)
          (ix3 ⟨128 * t.val + l.val, by omega⟩ g ⟨8 * h.val + r.val, by omega⟩) := by
  show V m c main_v8 (ix5 g h t r l) = _
  entry_read
  pointwise
  have e : (ix3 ⟨t.val * 128 + l.val, by omega⟩ g ⟨h.val * 8 + r.val, by omega⟩ : S640x160x16.Idx)
      = ix3 ⟨128 * t.val + l.val, by omega⟩ g ⟨8 * h.val + r.val, by omega⟩ := by
    rw [show (⟨t.val * 128 + l.val, by omega⟩ : Fin 640) = ⟨128 * t.val + l.val, by omega⟩ from Fin.ext (by simp only; omega),
      show (⟨h.val * 8 + r.val, by omega⟩ : Fin 16) = ⟨8 * h.val + r.val, by omega⟩ from Fin.ext (by simp only; omega)]
  exact congrArg (m ((c : Thread nD τ).loc main_arg7)) e

/-- The body's normalised rows are the specification's. -/
theorem normed_eq (i : Fin 192) :
    normed (iblk m c 0 t0_0) (iblk m c 1 t0_0) i
      = xnorm (m ((c : Thread nD τ).loc main_arg0)) (m ((c : Thread nD τ).loc main_arg1)) i := by
  funext k
  unfold normed xnorm
  simp only [x_read, w_read]
  exact congrArg (fun k => _ * m ((c : Thread nD τ).loc main_arg1) (ix1 k)) (Fin.ext (by simp only; omega))

/-- The queries after the launch. -/
theorem queries_array (h : Fin 20) (i : Fin 192) (l : Fin 128) :
    (dats m 0 c).arrAt 6 cfg0.N (ix3 h i l)
      = rotate (m ((c : Thread nD τ).loc main_arg2)) i
          (fun l => proj (xnorm (m ((c : Thread nD τ).loc main_arg0)) (m ((c : Thread nD τ).loc main_arg1)) i)
            (m ((c : Thread nD τ).loc main_arg3)) (m ((c : Thread nD τ).loc main_arg4))
            ⟨h.val * 128 + l.val, by omega⟩) l := by
  rw [← normed_eq]
  refine (congrFun (Dat.arrAt_eq_of_after_last (dats m 0 c) 6 t0_0 (by decide +kernel) (fun j => (outsAt0 m c t0_0).1 j) fun j => ?_) (ix3 h i l)).trans ?_
  · blk_simp
    rw [after0_6]
  · simp only [outsAt0]
    refine queries_apply _ _ _ _ _ _ _ _ _ _ _ _ _ _ _ _ _ _ _ _ _ _ _ _ _ _ _ _ _ _ _ _ _ _ _ _ _ _ _ _ _ _ (sq_read m c) (q_read m c) _ (pos_read m c) h i l

/-- The keys after the launch. -/
theorem keys_array (h : Fin 5) (i : Fin 192) (l : Fin 128) :
    (dats m 0 c).arrAt 7 cfg0.N (ix3 h i l)
      = rotate (m ((c : Thread nD τ).loc main_arg2)) i
          (fun l => proj (xnorm (m ((c : Thread nD τ).loc main_arg0)) (m ((c : Thread nD τ).loc main_arg1)) i)
            (m ((c : Thread nD τ).loc main_arg5)) (m ((c : Thread nD τ).loc main_arg6))
            ⟨h.val * 128 + l.val, by omega⟩) l := by
  rw [← normed_eq]
  refine (congrFun (Dat.arrAt_eq_of_after_last (dats m 0 c) 7 t0_0 (by decide +kernel) (fun j => (outsAt0 m c t0_0).2.1 j) fun j => ?_) (ix3 h i l)).trans ?_
  · blk_simp
    rw [after0_7]
  · simp only [outsAt0]
    refine keys_apply _ _ _ _ _ _ _ _ _ _ _ _ _ _ _ _ _ _ _ _ _ _ _ _ _ _ _ _ _ _ _ _ _ _ _ _ _ _ _ _ _ _ (sk_read m c) (k_read m c) _ (pos_read m c) h i l

/-- The values after the launch. -/
theorem values_array (h : Fin 5) (i : Fin 192) (l : Fin 128) :
    (dats m 0 c).arrAt 8 cfg0.N (ix3 h i l)
      = proj (xnorm (m ((c : Thread nD τ).loc main_arg0)) (m ((c : Thread nD τ).loc main_arg1)) i)
            (m ((c : Thread nD τ).loc main_arg7)) (m ((c : Thread nD τ).loc main_arg8))
            ⟨h.val * 128 + l.val, by omega⟩ := by
  rw [← normed_eq]
  refine (congrFun (Dat.arrAt_eq_of_after_last (dats m 0 c) 8 t0_0 (by decide +kernel) (fun j => (outsAt0 m c t0_0).2.2 j) fun j => ?_) (ix3 h i l)).trans ?_
  · blk_simp
    rw [after0_8]
  · simp only [outsAt0]
    refine values_apply _ _ _ _ _ _ _ _ _ _ _ _ _ _ _ _ _ _ _ _ _ _ _ _ _ _ _ _ _ _ _ _ _ _ _ _ _ _ _ _ _ _ (sv_read m c) (v_read m c) h i l

end Cert.KernelIdeal.Layer

end
-- ==== Proof.RefValue.lean ====
/- The reference's three results, read at an index. -/
module

public import proofs.«01_k».proof.Proof.Spec
public import proofs.«01_k».proof.Proof.Gen.ReferenceIdeal.Read

@[expose] public section

set_option maxRecDepth 16384

noncomputable section

namespace Cert.ReferenceIdeal.Layer

open Idealize.ShloMosaic Cert.Layer
open Cert.ReferenceIdeal Cert.ReferenceIdeal.Gen Cert.ReferenceIdeal.Read

/-- The reference's normalised rows. -/
theorem rows_at (X : FVec Ideal S192x1x5120 .bf16) (W : FVec Ideal S5120 .bf16) (i : Fin 192) (k : Fin 5120) :
    val_main_v16 (F := Ideal) X W (ix2 i k) = xnorm X W i k := by
  pointwise [val_main_v16, val_main_v15, val_main_v14, val_main_v13, val_main_v12, val_main_v11, val_main_v10,
    val_main_v9, val_main_v8, val_main_v7, val_main_v6, val_main_v5, val_main_v4, val_main_v3, val_main_v2,
    val_main_v1, val_main_v0, val_main_cst, val_main_cst_0, val_main_cst_1, xnorm]

/-- The columns the low nibbles multiply. -/
theorem low_at (X : FVec Ideal S192x1x5120 .bf16) (W : FVec Ideal S5120 .bf16) (i : Fin 192) (j : Fin 2560) :
    val_main_v20 (F := Ideal) X W (ix2 i j) = xnorm X W i (column j 0) := by
  rw [← rows_at]
  pointwise [val_main_v20, val_main_v19, val_main_v18, val_main_v17]
  exact congrArg (fun k => val_main_v16 (F := Ideal) X W (ix2 i k)) (Fin.ext (by simp [column]))

/-- The columns the high nibbles multiply. -/
theorem high_at (X : FVec Ideal S192x1x5120 .bf16) (W : FVec Ideal S5120 .bf16) (i : Fin 192) (j : Fin 2560) :
    val_main_v23 (F := Ideal) X W (ix2 i j) = xnorm X W i (column j 1) := by
  rw [← rows_at]
  pointwise [val_main_v23, val_main_v22, val_main_v21, val_main_v17]
  exact congrArg (fun k => val_main_v16 (F := Ideal) X W (ix2 i k)) (Fin.ext (by simp [column]))

/-- The mask of the even lanes. -/
theorem even_at : ∀ l : Fin 128, val_main_v50 (F := Ideal) (ix1 l) = if l.val % 2 = 0 then 1#1 else 0#1 := by
  decide +kernel

/-- The constant two, in binary32. -/
theorem two_f32 : Ideal.ofBits .f32 0x40000000#32 = ((2 : ℝ) : EReal) := by
  simp [Ideal.ofBits, Ideal.ieee, -EReal.coe_mul]
  norm_num

/-- The lane numbers, halved, as integers. -/
theorem half_toInt : ∀ n : Fin 64, (BitVec.ofNat 32 n.val).toInt = (n.val : ℤ) := by
  decide +kernel

/-- Twice a halved lane number. -/
theorem twice_half (l : Fin 128) :
    Ideal.ofBits .f32 0x40000000#32 * FloatOps.sitofp (F := Ideal) .f32 (BitVec.ofNat 32 (l.val / 2))
      = (((l.val / 2 * 2 : ℕ) : ℝ) : EReal) := by
  rw [two_f32]
  show ((2 : ℝ) : EReal) * (((BitVec.ofNat 32 (l.val / 2)).toInt : ℝ) : EReal) = _
  rw [half_toInt ⟨l.val / 2, by omega⟩, ← EReal.coe_mul]
  refine congrArg _ ?_
  rw [Nat.cast_mul, Int.cast_natCast, mul_comm]
  rfl

/-- The angles. -/
theorem angle_at (pos : IVec S192x1 32) (i : Fin 192) (l : Fin 128) :
    val_main_v38 (F := Ideal) pos (ix2 i ⟨l.val / 2, by omega⟩) = angle pos i l := by
  pointwise [val_main_v38, val_main_v37, val_main_v36, val_main_v35, val_main_v34, val_main_v33, val_main_v32,
    val_main_v31, val_main_v30, val_main_v29, val_main_v28, val_main_v27, val_main_v26, val_main_v25,
    val_main_v24, val_main_cst_2, val_main_cst_3, val_main_cst_4, val_main_cst_5, angle]
  refine congrArg₂ (· * ·) rfl (congrArg (Ideal.pow _) (congrArg (fun t => Ideal.div (-t) _) ?_))
  exact twice_half l

/-- The weights of the queries' low nibbles. -/
theorem q_low_at (P : IVec S2560x160x16 8) (S : FVec Ideal S2560x160 .bf16) (r : Fin 2560) (j : Fin 2560) :
    val_main_v63 (F := Ideal) P S (ix2 r j) = weight P S r j 0 := by
  pointwise [val_main_v63, val_main_v62, val_main_v61, val_main_v60, val_main_v59, val_main_v58,
    val_main_v57, val_main_v56, val_main_v55, val_main_v54, val_main_v53, val_main_c_7, val_main_c_8, weight]
  exact congrArg (fun z : ℤ => ((z : ℝ) : EReal) * _) (code_low _)

/-- The weights of the queries' high nibbles. -/
theorem q_high_at (P : IVec S2560x160x16 8) (S : FVec Ideal S2560x160 .bf16) (r : Fin 2560) (j : Fin 2560) :
    val_main_v70 (F := Ideal) P S (ix2 r j) = weight P S r j 1 := by
  pointwise [val_main_v70, val_main_v69, val_main_v68, val_main_v67, val_main_v66, val_main_v65, val_main_v64,
    val_main_v56, val_main_v55, val_main_v54, val_main_v53, val_main_c_9, val_main_c_10, weight]
  exact congrArg (fun z : ℤ => ((z : ℝ) : EReal) * _) (code_high _)

/-- The queries before the rotation. -/
theorem q_at (X : FVec Ideal S192x1x5120 .bf16) (W : FVec Ideal S5120 .bf16) (P : IVec S2560x160x16 8)
    (S : FVec Ideal S2560x160 .bf16) (i : Fin 192) (h : Fin 20) (l : Fin 128) :
    val_main_v74 (F := Ideal) X W P S (ix3 i h l) = proj (xnorm X W i) P S ⟨h.val * 128 + l.val, by omega⟩ := by
  unfold proj
  simp only [← low_at, ← high_at, ← q_low_at, ← q_high_at]
  pointwise [val_main_v74, val_main_v73, val_main_v72, val_main_v71]

/-- The weights of the keys' low nibbles. -/
theorem k_low_at (P : IVec S640x160x16 8) (S : FVec Ideal S640x160 .bf16) (r : Fin 640) (j : Fin 2560) :
    val_main_v85 (F := Ideal) P S (ix2 r j) = weight P S r j 0 := by
  pointwise [val_main_v85, val_main_v84, val_main_v83, val_main_v82, val_main_v81, val_main_v80,
    val_main_v79, val_main_v78, val_main_v77, val_main_v76, val_main_v75, val_main_c_11, val_main_c_12, weight]
  exact congrArg (fun z : ℤ => ((z : ℝ) : EReal) * _) (code_low _)

/-- The weights of the keys' high nibbles. -/
theorem k_high_at (P : IVec S640x160x16 8) (S : FVec Ideal S640x160 .bf16) (r : Fin 640) (j : Fin 2560) :
    val_main_v92 (F := Ideal) P S (ix2 r j) = weight P S r j 1 := by
  pointwise [val_main_v92, val_main_v91, val_main_v90, val_main_v89, val_main_v88, val_main_v87, val_main_v86,
    val_main_v78, val_main_v77, val_main_v76, val_main_v75, val_main_c_13, val_main_c_14, weight]
  exact congrArg (fun z : ℤ => ((z : ℝ) : EReal) * _) (code_high _)

/-- The keys before the rotation. -/
theorem k_at (X : FVec Ideal S192x1x5120 .bf16) (W : FVec Ideal S5120 .bf16) (P : IVec S640x160x16 8)
    (S : FVec Ideal S640x160 .bf16) (i : Fin 192) (h : Fin 5) (l : Fin 128) :
    val_main_v96 (F := Ideal) X W P S (ix3 i h l) = proj (xnorm X W i) P S ⟨h.val * 128 + l.val, by omega⟩ := by
  unfold proj
  simp only [← low_at, ← high_at, ← k_low_at, ← k_high_at]
  pointwise [val_main_v96, val_main_v95, val_main_v94, val_main_v93]

/-- The values: the keys' arithmetic over the values' weights. -/
theorem v_at (X : FVec Ideal S192x1x5120 .bf16) (W : FVec Ideal S5120 .bf16) (P : IVec S640x160x16 8)
    (S : FVec Ideal S640x160 .bf16) (i : Fin 192) (h : Fin 5) (l : Fin 128) :
    val_main_v118 (F := Ideal) X W P S (ix3 i h l) = proj (xnorm X W i) P S ⟨h.val * 128 + l.val, by omega⟩ := by
  rw [show val_main_v118 (F := Ideal) X W P S = val_main_v96 X W P S from rfl]
  exact k_at X W P S i h l

/-- The cosines. -/
theorem cos_at (pos : IVec S192x1 32) (i : Fin 192) (l : Fin 128) :
    val_main_v42 (F := Ideal) pos (ix3 i 0 l) = Ideal.cos (angle pos i l) := by
  rw [← angle_at]
  pointwise [val_main_v42, val_main_v41, val_main_v40, val_main_v39]

/-- The signed sines. -/
theorem sin_at (pos : IVec S192x1 32) (i : Fin 192) (l : Fin 128) :
    val_main_v52 (F := Ideal) pos (ix3 i 0 l) = signedSin pos i l := by
  unfold signedSin
  rw [← angle_at]
  pointwise [val_main_v52, val_main_call1_v0, val_main_v51, val_main_v46, val_main_v45, val_main_v44, val_main_v43]
  exact select_even l _ (even_at l) _ _

/-- The queries at the lanes they are paired with. -/
theorem q_mate_at (X : FVec Ideal S192x1x5120 .bf16) (W : FVec Ideal S5120 .bf16) (P : IVec S2560x160x16 8)
    (S : FVec Ideal S2560x160 .bf16) (i : Fin 192) (h : Fin 20) (l : Fin 128) :
    val_main_v123 (F := Ideal) X W P S (ix3 i h l) = val_main_v74 X W P S (ix3 i h (mate l)) := by
  have hl : val_main_v119 (F := Ideal) X W P S (ix3 i h l)
      = val_main_v74 X W P S (ix3 i h ⟨(l.val + 1) % 128, by omega⟩) := by
    pointwise [val_main_v119, val_main_call2_v0, val_main_call2_v1]
    split
    · exact congrArg (fun k => val_main_v74 (F := Ideal) X W P S (ix3 i h k)) (Fin.ext (by simp only; omega))
    · exact congrArg (fun k => val_main_v74 (F := Ideal) X W P S (ix3 i h k)) (Fin.ext (by simp only; omega))
  have hr : val_main_v120 (F := Ideal) X W P S (ix3 i h l)
      = val_main_v74 X W P S (ix3 i h ⟨(l.val + 127) % 128, by omega⟩) := by
    pointwise [val_main_v120, val_main_call3_v0, val_main_call3_v1]
    split
    · exact congrArg (fun k => val_main_v74 (F := Ideal) X W P S (ix3 i h k)) (Fin.ext (by simp only; omega))
    · exact congrArg (fun k => val_main_v74 (F := Ideal) X W P S (ix3 i h k)) (Fin.ext (by simp only; omega))
  have hm : val_main_v123 (F := Ideal) X W P S (ix3 i h l)
      = Scalar.select (val_main_v50 (F := Ideal) (ix1 l)) (val_main_v119 (F := Ideal) X W P S (ix3 i h l))
          (val_main_v120 (F := Ideal) X W P S (ix3 i h l)) := by
    pointwise [val_main_v123, val_main_call4_v0]
  rw [hm, select_even l _ (even_at l), hl, hr]
  unfold mate
  split <;> rfl

/-- The queries of head `h` at row `i` and lane `l`. -/
theorem queries_at (X : FVec Ideal S192x1x5120 .bf16) (W : FVec Ideal S5120 .bf16) (pos : IVec S192x1 32)
    (P : IVec S2560x160x16 8) (S : FVec Ideal S2560x160 .bf16) (h : Fin 20) (i : Fin 192) (l : Fin 128) :
    val_main_v136 (F := Ideal) X W pos P S (ix3 h i l)
      = rotate pos i (fun l => proj (xnorm X W i) P S ⟨h.val * 128 + l.val, by omega⟩) l := by
  unfold rotate
  simp only [← q_at, ← cos_at, ← sin_at]
  rw [← q_mate_at]
  pointwise [val_main_v136, val_main_v135, val_main_v126, val_main_v125, val_main_v124, val_main_v122, val_main_v121]

/-- The keys at the lanes they are paired with. -/
theorem k_mate_at (X : FVec Ideal S192x1x5120 .bf16) (W : FVec Ideal S5120 .bf16) (P : IVec S640x160x16 8)
    (S : FVec Ideal S640x160 .bf16) (i : Fin 192) (h : Fin 5) (l : Fin 128) :
    val_main_v131 (F := Ideal) X W P S (ix3 i h l) = val_main_v96 X W P S (ix3 i h (mate l)) := by
  have hl : val_main_v127 (F := Ideal) X W P S (ix3 i h l)
      = val_main_v96 X W P S (ix3 i h ⟨(l.val + 1) % 128, by omega⟩) := by
    pointwise [val_main_v127, val_main_call5_v0, val_main_call5_v1]
    split
    · exact congrArg (fun k => val_main_v96 (F := Ideal) X W P S (ix3 i h k)) (Fin.ext (by simp only; omega))
    · exact congrArg (fun k => val_main_v96 (F := Ideal) X W P S (ix3 i h k)) (Fin.ext (by simp only; omega))
  have hr : val_main_v128 (F := Ideal) X W P S (ix3 i h l)
      = val_main_v96 X W P S (ix3 i h ⟨(l.val + 127) % 128, by omega⟩) := by
    pointwise [val_main_v128, val_main_call6_v0, val_main_call6_v1]
    split
    · exact congrArg (fun k => val_main_v96 (F := Ideal) X W P S (ix3 i h k)) (Fin.ext (by simp only; omega))
    · exact congrArg (fun k => val_main_v96 (F := Ideal) X W P S (ix3 i h k)) (Fin.ext (by simp only; omega))
  have hm : val_main_v131 (F := Ideal) X W P S (ix3 i h l)
      = Scalar.select (val_main_v50 (F := Ideal) (ix1 l)) (val_main_v127 (F := Ideal) X W P S (ix3 i h l))
          (val_main_v128 (F := Ideal) X W P S (ix3 i h l)) := by
    pointwise [val_main_v131, val_main_call7_v0]
  rw [hm, select_even l _ (even_at l), hl, hr]
  unfold mate
  split <;> rfl

/-- The keys of head `h` at row `i` and lane `l`. -/
theorem keys_at (X : FVec Ideal S192x1x5120 .bf16) (W : FVec Ideal S5120 .bf16) (pos : IVec S192x1 32)
    (P : IVec S640x160x16 8) (S : FVec Ideal S640x160 .bf16) (h : Fin 5) (i : Fin 192) (l : Fin 128) :
    val_main_v138 (F := Ideal) X W pos P S (ix3 h i l)
      = rotate pos i (fun l => proj (xnorm X W i) P S ⟨h.val * 128 + l.val, by omega⟩) l := by
  unfold rotate
  simp only [← k_at, ← cos_at, ← sin_at]
  rw [← k_mate_at]
  pointwise [val_main_v138, val_main_v137, val_main_v134, val_main_v133, val_main_v132, val_main_v130, val_main_v129]

/-- The values of head `h` at row `i` and lane `l`. -/
theorem values_at (X : FVec Ideal S192x1x5120 .bf16) (W : FVec Ideal S5120 .bf16)
    (P : IVec S640x160x16 8) (S : FVec Ideal S640x160 .bf16) (h : Fin 5) (i : Fin 192) (l : Fin 128) :
    val_main_v140 (F := Ideal) X W P S (ix3 h i l) = proj (xnorm X W i) P S ⟨h.val * 128 + l.val, by omega⟩ := by
  rw [← v_at]
  pointwise [val_main_v140, val_main_v139]

end Cert.ReferenceIdeal.Layer

end
-- ==== Proof.lean ====
/- The certificate: the three frames, the idealization, and the kernel's three results equal to the reference's on
   the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The printed kernel leaves its arguments as they were. -/
theorem frame_kernel : Cert.quiescent_Kernel := fun m g _ => Cert.Kernel.Gen.frame m g

/-- The idealized kernel leaves its arguments as they were. -/
theorem frame_ideal : Cert.quiescent_KernelIdeal := fun m g _ => Cert.KernelIdeal.Gen.frame m g

/-- The reference leaves its arguments as they were. -/
theorem frame_reference : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

variable (m : (ℓ : Loc Cert.KernelIdeal.nD Cert.KernelIdeal.τ Cert.KernelIdeal.sig) → Buf (Elt Ideal) ℓ)

/-- The queries the kernel leaves are the reference's over the same arguments. -/
theorem queries_eq (c : Dev Cert.KernelIdeal.nD) :
    (Cert.KernelIdeal.Gen.dats m 0 c).arrAt 6 Cert.KernelIdeal.cfg0.N
      = Cert.ReferenceIdeal.Read.val_main_v136 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  funext j
  idx_vars j
  exact (Cert.KernelIdeal.Layer.queries_array m c j0 j1 j2).trans
    (Cert.ReferenceIdeal.Layer.queries_at _ _ _ _ _ j0 j1 j2).symm

/-- The keys the kernel leaves are the reference's over the same arguments. -/
theorem keys_eq (c : Dev Cert.KernelIdeal.nD) :
    (Cert.KernelIdeal.Gen.dats m 0 c).arrAt 7 Cert.KernelIdeal.cfg0.N
      = Cert.ReferenceIdeal.Read.val_main_v138 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  funext j
  idx_vars j
  exact (Cert.KernelIdeal.Layer.keys_array m c j0 j1 j2).trans
    (Cert.ReferenceIdeal.Layer.keys_at _ _ _ _ _ j0 j1 j2).symm

/-- The values the kernel leaves are the reference's over the same arguments. -/
theorem values_eq (c : Dev Cert.KernelIdeal.nD) :
    (Cert.KernelIdeal.Gen.dats m 0 c).arrAt 8 Cert.KernelIdeal.cfg0.N
      = Cert.ReferenceIdeal.Read.val_main_v140 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  funext j
  idx_vars j
  exact (Cert.KernelIdeal.Layer.values_array m c j0 j1 j2).trans
    (Cert.ReferenceIdeal.Layer.values_at _ _ _ _ j0 j1 j2).symm

/-- From the same arguments the idealized kernel and the reference end with the same three results. -/
theorem algebraic : Cert.algebraic_KernelIdeal_ReferenceIdeal := by
  intro m g m' g' _ hag
  have queries (c : Dev Cert.KernelIdeal.nD) : Cert.ReferenceIdeal.Read.val_main_v136 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      = (Cert.KernelIdeal.Gen.dats m 0 c).arrAt 6 Cert.KernelIdeal.cfg0.N := by
    rw [(hag c).1, (hag c).2.1, (hag c).2.2.1, (hag c).2.2.2.1, (hag c).2.2.2.2.1]
    exact (queries_eq m c).symm
  have keys (c : Dev Cert.KernelIdeal.nD) : Cert.ReferenceIdeal.Read.val_main_v138 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      = (Cert.KernelIdeal.Gen.dats m 0 c).arrAt 7 Cert.KernelIdeal.cfg0.N := by
    rw [(hag c).1, (hag c).2.1, (hag c).2.2.1, (hag c).2.2.2.2.2.1, (hag c).2.2.2.2.2.2.1]
    exact (keys_eq m c).symm
  have values (c : Dev Cert.KernelIdeal.nD) : Cert.ReferenceIdeal.Read.val_main_v140 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      = (Cert.KernelIdeal.Gen.dats m 0 c).arrAt 8 Cert.KernelIdeal.cfg0.N := by
    rw [(hag c).1, (hag c).2.1, (hag c).2.2.2.2.2.2.2.1, (hag c).2.2.2.2.2.2.2.2]
    exact (values_eq m c).symm
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, ?_⟩
  refine (θ_run Cert.ReferenceIdeal.defs _ _).mono (fun _ h c => ⟨?_, ?_, ?_, (h c).2.2.2⟩)
    (Cert.ReferenceIdeal.Value.run (F := Ideal) m' g')
  · exact ((h c).1.trans (Cert.ReferenceIdeal.Read.val_main_v136_eq _)).trans (queries c)
  · exact ((h c).2.1.trans (Cert.ReferenceIdeal.Read.val_main_v138_eq _)).trans (keys c)
  · exact ((h c).2.2.1.trans (Cert.ReferenceIdeal.Read.val_main_v140_eq _)).trans (values c)

/-- The certificate's claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
